-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative_KernelIdeal [hPre_nonnegative_KernelIdeal : Cert.Pre_nonnegative_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative_ReferenceIdeal [hPre_nonnegative_ReferenceIdeal : Cert.Pre_nonnegative_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonnegative_KernelIdeal [hKernelIdeal : Cert.KernelIdeal.Facts] [hPre_nonnegative_KernelIdeal : Cert.Pre_nonnegative_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonnegative_ReferenceIdeal [hReferenceIdeal : Cert.ReferenceIdeal.Facts] [hPre_nonnegative_ReferenceIdeal : Cert.Pre_nonnegative_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nonnegative_KernelIdeal [hKernelIdeal : Cert.KernelIdeal.Facts] [hReferenceIdeal : Cert.ReferenceIdeal.Facts] [hPre_nonnegative_KernelIdeal : Cert.Pre_nonnegative_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonnegative_KernelIdeal : Cert.Pre_nonnegative_KernelIdeal.Facts) (hPre_nonnegative_ReferenceIdeal : Cert.Pre_nonnegative_ReferenceIdeal.Facts),
    quiescent_Kernel (hKernel := hKernel)
    ∧ quiescent_KernelIdeal (hKernelIdeal := hKernelIdeal)
    ∧ quiescent_KernelIdeal_pre_nonnegative_KernelIdeal (hKernelIdeal := hKernelIdeal) (hPre_nonnegative_KernelIdeal := hPre_nonnegative_KernelIdeal)
    ∧ quiescent_ReferenceIdeal (hReferenceIdeal := hReferenceIdeal)
    ∧ quiescent_ReferenceIdeal_pre_nonnegative_ReferenceIdeal (hReferenceIdeal := hReferenceIdeal) (hPre_nonnegative_ReferenceIdeal := hPre_nonnegative_ReferenceIdeal)
    ∧ preserves_Kernel_KernelIdeal
    ∧ algebraic_KernelIdeal_ReferenceIdeal_pre_nonnegative_KernelIdeal (hKernelIdeal := hKernelIdeal) (hReferenceIdeal := hReferenceIdeal) (hPre_nonnegative_KernelIdeal := hPre_nonnegative_KernelIdeal)
-- ==== Pre_nonnegative_KernelIdeal.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .bf16) : IVec S_ 1 :=
  let main_cst : FVec F S_ .bf16 := constant S_ .bf16 0x0000#16
  let main_v0 : FVec F S256x256 .bf16 := broadcastInDim S256x256 ![] bcast_S_S256x256 main_cst
  let main_v1 : IVec S256x256 1 := cmpf .oge main_arg0 main_v0
  let main_c : IVec S_ 1 := constantI S_ 1 1#1
  let main_v2 : IVec S_ 1 := (fun x v => Host.reduce IntOp.andi x v reducesTo_S256x256_S_d0_1 h_S_) main_v1 main_c
  main_v2
-- ==== Pre_nonnegative_ReferenceIdeal.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .bf16) : IVec S_ 1 :=
  let main_cst : FVec F S_ .bf16 := constant S_ .bf16 0x0000#16
  let main_v0 : FVec F S1024x256 .bf16 := broadcastInDim S1024x256 ![] bcast_S_S1024x256 main_cst
  let main_v1 : IVec S1024x256 1 := cmpf .oge main_arg0 main_v0
  let main_c : IVec S_ 1 := constantI S_ 1 1#1
  let main_v2 : IVec S_ 1 := (fun x v => Host.reduce IntOp.andi x v reducesTo_S1024x256_S_d0_1 h_S_) main_v1 main_c
  main_v2
-- ==== Kernel.lean ====
abbrev S256x256 : Shape := ⟨2, ![256, 256]⟩
abbrev S4x1x256 : Shape := ⟨3, ![4, 1, 256]⟩
abbrev S3 : Shape := ⟨1, ![3]⟩
abbrev S4 : Shape := ⟨1, ![4]⟩
abbrev S_ : Shape := ⟨0, ![]⟩
abbrev S1x256 : Shape := ⟨2, ![1, 256]⟩
abbrev S1x1x256 : Shape := ⟨3, ![1, 1, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .bf16⟩
  | .hbm, ⟨1, _⟩ => ⟨S256x256, .bf16⟩
  | .local _ .vmem, ⟨0, _⟩ => ⟨S256x256, .bf16⟩
  | .local _ .vmem, ⟨1, _⟩ => ⟨S256x256, .bf16⟩
  | .local _ .vmem, ⟨2, _⟩ => ⟨S4x1x256, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 1 := Scalar.cmpi .sge v2 c1_i32_0
  let v5 : BitVec 32 := Scalar.extui v4
  let c0_i32 : BitVec 32 := 0#32
  let v6 : BitVec 1 := Scalar.cmpi .ne v5 c0_i32
  v6

def k0_dev1 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_47 : BitVec 32 := 1#32
  let v86 : BitVec 32 := Scalar.subi v2 c1_i32_47
  let c1_i32_49 : BitVec 32 := 1#32
  let v87 : BitVec 32 := Scalar.muli v86 c1_i32_49
  let v88 : BitVec 32 := Scalar.addi c0_i32_50 v87
  v88.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 1 := Scalar.cmpi .sge v2 c2_i32
  let v8 : BitVec 32 := Scalar.extui v7
  let c0_i32_1 : BitVec 32 := 0#32
  let v9 : BitVec 1 := Scalar.cmpi .ne v8 c0_i32_1
  v9

def k0_dev2 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_47 : BitVec 32 := 2#32
  let v86 : BitVec 32 := Scalar.subi v2 c2_i32_47
  let c1_i32_49 : BitVec 32 := 1#32
  let v87 : BitVec 32 := Scalar.muli v86 c1_i32_49
  let v88 : BitVec 32 := Scalar.addi c0_i32_50 v87
  v88.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v10 : BitVec 1 := Scalar.cmpi .sge v2 c3_i32
  let v11 : BitVec 32 := Scalar.extui v10
  let c0_i32_2 : BitVec 32 := 0#32
  let v12 : BitVec 1 := Scalar.cmpi .ne v11 c0_i32_2
  v12

def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_47 : BitVec 32 := 3#32
  let v86 : BitVec 32 := Scalar.subi v2 c3_i32_47
  let c1_i32_49 : BitVec 32 := 1#32
  let v87 : BitVec 32 := Scalar.muli v86 c1_i32_49
  let v88 : BitVec 32 := Scalar.addi c0_i32_50 v87
  v88.toNat
def k0_amt1 (d0 : Dev nD) : BitVec 32 :=
  let c3_i32_7 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.subi c3_i32_7 v2
  v29

def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_8 : BitVec 32 := 2#32
  let v30 : BitVec 32 := Scalar.addi v2 c2_i32_8
  let c3_i32_9 : BitVec 32 := 3#32
  let v31 : BitVec 1 := Scalar.cmpi .sle v30 c3_i32_9
  let v32 : BitVec 32 := Scalar.extui v31
  let c0_i32_10 : BitVec 32 := 0#32
  let v33 : BitVec 1 := Scalar.cmpi .ne v32 c0_i32_10
  v33

def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_47 : BitVec 32 := 2#32
  let v86 : BitVec 32 := Scalar.addi v2 c2_i32_47
  let c1_i32_52 : BitVec 32 := 1#32
  let v87 : BitVec 32 := Scalar.muli v86 c1_i32_52
  let v88 : BitVec 32 := Scalar.addi c0_i32_53 v87
  v88.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v34 : BitVec 32 := Scalar.addi v2 c1_i32_11
  let c3_i32_12 : BitVec 32 := 3#32
  let v35 : BitVec 1 := Scalar.cmpi .sle v34 c3_i32_12
  let v36 : BitVec 32 := Scalar.extui v35
  let c0_i32_13 : BitVec 32 := 0#32
  let v37 : BitVec 1 := Scalar.cmpi .ne v36 c0_i32_13
  v37

def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_47 : BitVec 32 := 1#32
  let v86 : BitVec 32 := Scalar.addi v2 c1_i32_47
  let c1_i32_52 : BitVec 32 := 1#32
  let v87 : BitVec 32 := Scalar.muli v86 c1_i32_52
  let v88 : BitVec 32 := Scalar.addi c0_i32_53 v87
  v88.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_14 : BitVec 32 := 3#32
  let v38 : BitVec 32 := Scalar.addi v2 c3_i32_14
  let c3_i32_15 : BitVec 32 := 3#32
  let v39 : BitVec 1 := Scalar.cmpi .sle v38 c3_i32_15
  let v40 : BitVec 32 := Scalar.extui v39
  let c0_i32_16 : BitVec 32 := 0#32
  let v41 : BitVec 1 := Scalar.cmpi .ne v40 c0_i32_16
  v41

def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_47 : BitVec 32 := 3#32
  let v86 : BitVec 32 := Scalar.addi v2 c3_i32_47
  let c1_i32_52 : BitVec 32 := 1#32
  let v87 : BitVec 32 := Scalar.muli v86 c1_i32_52
  let v88 : BitVec 32 := Scalar.addi c0_i32_53 v87
  v88.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩
abbrev S_ : Shape := ⟨0, ![]⟩
abbrev S256 : Shape := ⟨1, ![256]⟩
abbrev S1x256 : Shape := ⟨2, ![1, 256]⟩

abbrev nBuf : Space → Nat
  | .hbm => 21
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S_, .bf16⟩
  | .hbm, ⟨2, _⟩ => ⟨S256, .bf16⟩
  | .hbm, ⟨3, _⟩ => ⟨S_, .bf16⟩
  | .hbm, ⟨4, _⟩ => ⟨S1024x256, .bf16⟩
  | .hbm, ⟨5, _⟩ => ⟨S_, .i32⟩
  | .hbm, ⟨6, _⟩ => ⟨S1024x256, .bf16⟩
  | .hbm, ⟨7, _⟩ => ⟨S_, .i32⟩
  | .hbm, ⟨8, _⟩ => ⟨S256, .bf16⟩
  | .hbm, ⟨9, _⟩ => ⟨S1024x256, .bf16⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x256, .bf16⟩
  | .hbm, ⟨14, _⟩ => ⟨S256, .bf16⟩
  | .hbm, ⟨15, _⟩ => ⟨S256, .bf16⟩
  | .hbm, ⟨16, _⟩ => ⟨S1x256, .bf16⟩
  | .hbm, ⟨17, _⟩ => ⟨S_, .i32⟩
  | .hbm, ⟨18, _⟩ => ⟨S1024x256, .bf16⟩
  | .hbm, ⟨19, _⟩ => ⟨S_, .i32⟩
  | .hbm, ⟨20, _⟩ => ⟨S_, .i32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 1024#32, 1#32⟩
-- ==== Proof.KernelIdealSlots.lean ====
/-
# The devices and the four rows of the exchange buffer

The kernel keeps a buffer of four rows of 256 totals. Row 0 holds the device's own column totals; row `d` receives the
totals of the device `d` places below. This module names the rows, cuts the buffer into them, and computes what a row
holds after the kernel's store and after a copy.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)
open Idealize.ShloMosaic.Pipeline (Dat Cfg Window BodyObligation cellOf)

variable {F : FTy → Type} [FloatOps F]

/-- Each device's own state: the pipeline's cells and the exchange's, the exchange's duties numbered by distance. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices: `e` stands for the distance `e + 1` -/

set_option backward.proofsInPublic true in
/-- The device `e + 1` places up, counted around the four. -/
def up (e : Fin 3) (c : Dev nD) : Dev nD := ⟨(c.val + (e.val + 1)) % 4, Nat.mod_lt _ (by decide)⟩
set_option backward.proofsInPublic true in
/-- The device `e + 1` places down, counted around the four. -/
def dn (e : Fin 3) (c : Dev nD) : Dev nD := ⟨(c.val + (3 - e.val)) % 4, Nat.mod_lt _ (by decide)⟩

/-- There is a device `e + 1` places below `c` on the line. -/
abbrev Lo (e : Fin 3) (c : Dev nD) : Prop := e.val + 1 ≤ c.val
/-- There is a device `e + 1` places above `c` on the line. -/
abbrev Hi (e : Fin 3) (c : Dev nD) : Prop := c.val + (e.val + 1) ≤ 3

theorem dn_up : ∀ (e : Fin 3) (c : Dev nD), dn e (up e c) = c := by decide
theorem up_dn : ∀ (e : Fin 3) (c : Dev nD), up e (dn e c) = c := by decide
/-- A device has one `e + 1` places above exactly when that one has a device `e + 1` places below. -/
theorem lo_up : ∀ (e : Fin 3) (c : Dev nD), Lo e (up e c) ↔ Hi e c := by decide
theorem hi_dn : ∀ (e : Fin 3) (c : Dev nD), Hi e (dn e c) ↔ Lo e c := by decide
/-- On the line the device above is counted without wrapping; likewise below. -/
theorem up_val : ∀ (e : Fin 3) (c : Dev nD), Hi e c → (up e c).val = c.val + (e.val + 1) := by decide
theorem dn_val : ∀ (e : Fin 3) (c : Dev nD), Lo e c → (dn e c).val = c.val - (e.val + 1) := by decide

/-- Going `e + 1` places up, as a permutation of the devices. -/
def ring (e : Fin 3) : Dev nD ≃ Dev nD := ⟨up e, dn e, dn_up e, up_dn e⟩

/-! ### The printed conditions and addresses -/

theorem cond1_iff : ∀ c : Dev nD, k0_cond1 c = 1#1 ↔ Lo 0 c := by decide +kernel
theorem cond2_iff : ∀ c : Dev nD, k0_cond2 c = 1#1 ↔ Lo 1 c := by decide +kernel
theorem cond3_iff : ∀ c : Dev nD, k0_cond3 c = 1#1 ↔ Lo 2 c := by decide +kernel
theorem cond4_iff : ∀ c : Dev nD, k0_cond4 c = 1#1 ↔ Hi 1 c := by decide +kernel
theorem cond5_iff : ∀ c : Dev nD, k0_cond5 c = 1#1 ↔ Hi 0 c := by decide +kernel
theorem cond6_iff : ∀ c : Dev nD, k0_cond6 c = 1#1 ↔ Hi 2 c := by decide +kernel

theorem dev1_eq : ∀ (c : Dev nD) (h : k0_cond1 c = 1#1), (⟨k0_dev1 c, k0_dev1_lt c h⟩ : Dev nD) = dn 0 c := by decide +kernel
theorem dev2_eq : ∀ (c : Dev nD) (h : k0_cond2 c = 1#1), (⟨k0_dev2 c, k0_dev2_lt c h⟩ : Dev nD) = dn 1 c := by decide +kernel
theorem dev3_eq : ∀ (c : Dev nD) (h : k0_cond3 c = 1#1), (⟨k0_dev3 c, k0_dev3_lt c h⟩ : Dev nD) = dn 2 c := by decide +kernel
theorem dev4_eq : ∀ (c : Dev nD) (h : k0_cond4 c = 1#1), (⟨k0_dev4 c, k0_dev4_lt c h⟩ : Dev nD) = up 1 c := by decide +kernel
theorem dev5_eq : ∀ (c : Dev nD) (h : k0_cond5 c = 1#1), (⟨k0_dev5 c, k0_dev5_lt c h⟩ : Dev nD) = up 0 c := by decide +kernel
theorem dev6_eq : ∀ (c : Dev nD) (h : k0_cond6 c = 1#1), (⟨k0_dev6 c, k0_dev6_lt c h⟩ : Dev nD) = up 2 c := by decide +kernel

/-- The kernel's own place on the line, as it computes it. -/
def place (c : Dev nD) : BitVec 32 := Scalar.remsi (Scalar.divsi (Dev.word c) 1#32) 4#32

/-- "There is a device `e + 1` places below", as the kernel asks it before a wait or a selection. -/
theorem sge_iff : ∀ (c : Dev nD) (e : Fin 3), Scalar.cmpi .sge (place c) (BitVec.ofNat 32 (e.val + 1)) = 1#1 ↔ Lo e c := by decide +kernel
theorem waitLo_iff : ∀ (c : Dev nD) (e : Fin 3),
    Scalar.cmpi .ne (Scalar.extui (Scalar.cmpi .sge (place c) (BitVec.ofNat 32 (e.val + 1))) : BitVec 32) 0#32 = 1#1 ↔ Lo e c := by decide +kernel
/-- "There is a device `e + 1` places above", as the kernel asks it at its last waits. -/
theorem waitHi_iff : ∀ (c : Dev nD) (e : Fin 3),
    Scalar.cmpi .ne (Scalar.extui (Scalar.cmpi .sle (Scalar.addi (place c) (BitVec.ofNat 32 (e.val + 1))) 3#32) : BitVec 32) 0#32 = 1#1 ↔ Hi e c := by decide +kernel

/-- The number of devices above, which the kernel waits for. -/
theorem amt_eq : ∀ c : Dev nD, (k0_amt1 c).toInt = ((3 - c.val : ℕ) : ℤ) := by decide +kernel

/-! ## The memrefs, the semaphores, the cells -/

abbrev xM : Memref sig .tc .vmem S256x256 .bf16 := Memref.whole cc0_stg0_0
abbrev oM : Memref sig .tc .vmem S256x256 .bf16 := Memref.whole cc0_stg1_0
abbrev gM : Memref sig .tc .vmem S4x1x256 .f32 := Memref.whole cc0_scratch0

theorem inb_slot : ∀ (j : Fin 4) (a : Fin S4x1x256.rank), (![j.val, 0, 0] : Fin 3 → ℕ) a + S1x1x256.size a ≤ S4x1x256.size a := by decide

/-- Row `j` of the exchange buffer, as a rectangle; -/
abbrev slotR (j : Fin 4) : Rect S4x1x256 := Rect.unit (s := S4x1x256) ![j.val, 0, 0] S1x1x256.size (inb_slot j)
/-- as the memref the copies name. -/
abbrev slotM (j : Fin 4) : Memref sig .tc .vmem S1x256 .f32 := (gM.slice (slotR j) (fun _ => rfl)).squeeze S1x256 squeezes_S1x1x256_S1x256

/-- The barrier semaphore, the three send semaphores, the four receive semaphores. -/
abbrev barS : Sem sig := (SemArray.scalar (sig.barrier 0 rfl) : Sems sig S_).sem
set_option backward.proofsInPublic true in
abbrev sendS (e : Fin 3) : DmaSem sig := ⟨2 + e.val, show 2 + e.val < 9 by omega⟩
set_option backward.proofsInPublic true in
abbrev recvS (j : Fin 4) : DmaSem sig := ⟨5 + j.val, show 5 + j.val < 9 by omega⟩

abbrev barCell (c : Dev nD) : GSem nD τ sig := ((c : Thread nD τ), .reg barS)
abbrev sendCell (e : Fin 3) (c : Dev nD) : GSem nD τ sig := ((c : Thread nD τ), .dma (sendS e))
/-- The cell of the copy from `e + 1` places below. -/
abbrev recvCell (e : Fin 3) (c : Dev nD) : GSem nD τ sig := ((c : Thread nD τ), .dma (recvS e.succ))

/-- What one row's copy credits. -/
abbrev N : ℕ := (slotM 0).view.dmaCredit
theorem N_pos : 0 < N := View.dmaCredit_pos _ (by decide)

/-! ## The rows of the buffer -/

/-- The elements of row `j`. -/
abbrev slotSet (j : Fin 4) : Finset (Idx (((0 : Dev nD) : Thread nD τ).loc cc0_scratch0)) := (slotR j).set

theorem slot_set (j : Fin 4) : (slotM j).view.set = slotSet j :=
  (View.set_reshape (v := (gM.slice (slotR j) (fun _ => rfl)).view) _).trans (View.set_slice_whole _ _)
theorem access_set (j : Fin 4) : (gM.access (slotR j)).set = slotSet j := View.set_slice_whole _ _

theorem slot_disjoint (j k : Fin 4) (h : j ≠ k) : Disjoint (slotSet j) (slotSet k) :=
  lead_disjoint (s := S4x1x256) (NB := 4) (0 : Fin 3) 1 (fun j => ![j.val, 0, 0]) S1x1x256.size inb_slot (fun j => (Nat.one_mul j.val).symm) rfl j k h
theorem slot_cover : Finset.univ.biUnion slotSet = Finset.univ :=
  lead_cover (s := S4x1x256) (NB := 4) (0 : Fin 3) 1 (fun j => ![j.val, 0, 0]) S1x1x256.size inb_slot (fun j => (Nat.one_mul j.val).symm)
    (by intro j a ha; fin_cases a <;> first | exact absurd rfl ha | rfl) rfl (by intro a ha; fin_cases a <;> first | exact absurd rfl ha | rfl) rfl

/-- Row `j` of device `c`'s buffer at share `q` and contents `f`. -/
def slotPts (j : Fin 4) (q : PosShare TreeShare) (c : Dev nD) (f : Buf (Elt F) ((c : Thread nD τ).loc cc0_scratch0)) : sProp 𝕄 :=
  ((c : Thread nD τ).loc cc0_scratch0) ↦[slotSet j]{q} f

omit [FloatOps F] in
instance slotPts_storable (j : Fin 4) (q) (c : Dev nD) (f) : BI.Storable (upEmb : UEmb _ 𝕄) (slotPts (F := F) j q c f) := by unfold slotPts; infer_instance

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The buffer held whole is its four rows held; -/
theorem slots_split (c : Dev nD) (f : Buf (Elt F) ((c : Thread nD τ).loc cc0_scratch0)) :
    (((c : Thread nD τ).loc cc0_scratch0) ↦{fullShare} f : sProp 𝕄)
      = iprop(slotPts 0 fullShare c f ∗ slotPts 1 fullShare c f ∗ slotPts 2 fullShare c f ∗ slotPts 3 fullShare c f) := by
  rw [pointsTo_blocks (ℓ := (c : Thread nD τ).loc cc0_scratch0) slotSet slot_disjoint slot_cover f, bigSep_fin4]; rfl
omit [FloatOps F] in
/-- and the four rows, each at its own contents, join to the whole buffer. -/
theorem slots_join (c : Dev nD) (f₀ : Buf (Elt F) ((c : Thread nD τ).loc cc0_scratch0)) :
    iprop((∃ f, slotPts 0 fullShare c f) ∗ (∃ f, slotPts 1 fullShare c f) ∗ (∃ f, slotPts 2 fullShare c f) ∗ (∃ f, slotPts 3 fullShare c f))
      ⊢ (iprop(∃ g, ((c : Thread nD τ).loc cc0_scratch0) ↦{fullShare} g) : sProp 𝕄) := by
  refine Entails.trans (Entails.of_eq ?_) (pointsTo_blocks_join_exists (ℓ := (c : Thread nD τ).loc cc0_scratch0) slotSet slot_disjoint slot_cover f₀)
  rw [bigSep_fin4]; rfl

/-- The three shares of row 0, one for each copy that reads it. -/
def sh : Fin 3 → PosShare TreeShare := ![fullShare.left, fullShare.right.left, fullShare.right.right]

omit [FloatOps F] in
/-- Row 0 held whole is its three shares. -/
theorem share3 (c : Dev nD) (f : Buf (Elt F) ((c : Thread nD τ).loc cc0_scratch0)) :
    slotPts (F := F) 0 fullShare c f ⊣⊢ iprop(slotPts 0 (sh 0) c f ∗ slotPts 0 (sh 1) c f ∗ slotPts 0 (sh 2) c f) := by
  have h1 : slotPts (F := F) 0 fullShare c f ⊣⊢ iprop(slotPts 0 fullShare.left c f ∗ slotPts 0 fullShare.right c f) :=
    pointsTo_share (PosShare.mem_left_op_right fullShare)
  have h2 : slotPts (F := F) 0 fullShare.right c f ⊣⊢ iprop(slotPts 0 fullShare.right.left c f ∗ slotPts 0 fullShare.right.right c f) :=
    pointsTo_share (PosShare.mem_left_op_right fullShare.right)
  exact ⟨h1.1.trans (sep_mono_right h2.1), (sep_mono_right h2.2).trans h1.2⟩

/-! ## What the rows hold -/

/-- Contents whose every row is the row `t`. -/
def rows (t : S1x1x256.Idx → Elt F .f32) : S4x1x256.Idx → Elt F .f32 :=
  fun i => t (fun a : Fin 3 => match a with
    | 0 => ⟨0, Nat.one_pos⟩
    | 1 => ⟨0, Nat.one_pos⟩
    | 2 => i 2)

omit [FloatOps F] in
theorem rows_slot (t : S1x1x256.Idx → Elt F .f32) (j : Fin 4) (x : S1x1x256.Idx) : rows t ((slotR j).emb x) = t x := by
  unfold rows
  congr 1
  funext a
  fin_cases a
  · exact Subsingleton.elim (α := Fin 1) _ _
  · exact Subsingleton.elim (α := Fin 1) _ _
  · apply Fin.ext
    show (0 + 1 * (x 2).val : ℕ) = _
    simp

omit [FloatOps F] in
/-- After the store of the row `t` into row 0, row 0 holds `t`. -/
theorem stored_eq (q : PosShare TreeShare) (c : Dev nD) (f : Buf (Elt F) ((c : Thread nD τ).loc cc0_scratch0)) (t : S1x1x256.Idx → Elt F .f32) :
    (slotPts 0 q c ((gM.access (slotR 0)).write (Elt F) f t Finset.univ) : sProp 𝕄) = slotPts 0 q c (rows t) := by
  unfold slotPts
  refine pointsTo_congr fun i hi => ?_
  obtain ⟨x, -, rfl⟩ := Finset.mem_map.mp ((access_set 0).symm ▸ hi)
  rw [View.write_emb_of_mem _ _ (Finset.mem_univ _)]
  exact (rows_slot t 0 x).symm

omit [FloatOps F] in
/-- After a copy of a row `t` onto row `j`, row `j` holds `t`. -/
theorem copied_eq (j k : Fin 4) (q : PosShare TreeShare) (c : Dev nD) (f : Buf (Elt F) ((c : Thread nD τ).loc cc0_scratch0)) (t : S1x1x256.Idx → Elt F .f32) :
    (slotPts j q c ((slotM j).view.write (Elt F) f ((slotM k).view.read (Elt F) (rows t)) Finset.univ) : sProp 𝕄) = slotPts j q c (rows t) := by
  unfold slotPts
  refine pointsTo_congr fun i hi => ?_
  obtain ⟨y, -, rfl⟩ := Finset.mem_map.mp ((slot_set j).symm ▸ hi)
  rw [View.write_emb_of_mem _ _ (Finset.mem_univ _)]
  exact (rows_slot t k (Shape.reshapeEquiv squeezes_S1x1x256_S1x256.numel_eq y)).trans
    (rows_slot t j (Shape.reshapeEquiv squeezes_S1x1x256_S1x256.numel_eq y)).symm

omit [FloatOps F] in
/-- Loading row `j` of such contents reads `t`. -/
theorem loaded_eq (j : Fin 4) (t : S1x1x256.Idx → Elt F .f32) : gM.view.readAt (Elt F) (slotR j).toLoadRect (rows t) = t :=
  funext fun x => rows_slot t j x

end Cert.KernelIdealProof

end
-- ==== Proof.KernelIdealProto.lean ====
/-
# The exchange: who pays which semaphore, and with what

Every device signals the barrier of each device below it and, once every device above it has signalled, copies its row of
totals to each of them. A signal hands over the row the copy will land in. A copy returns a share of the sender's row 0 to
the sender's send semaphore and hands the landed row to the receiver's receive semaphore.
-/
module

public import proofs.«01_k».proof.Proof.KernelIdealSlots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of the input. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s row of column totals, in every row of a buffer. -/
def totals (c : Dev nD) : Buf (Elt F) ((c : Thread nD τ).loc cc0_scratch0) := rows (k0_pay3 (xstg m ρ c))

/-! ## The schedule -/

/-- The roles of a semaphore in the exchange. -/
inductive Role where
  | bar | send (e : Fin 3) | recv (e : Fin 3) | idle
  deriving DecidableEq

set_option backward.proofsInPublic true in
/-- The role of each semaphore. -/
def role : SemLoc sig → Role
  | .reg _ => .bar
  | .dma q => if h : 2 ≤ q.val ∧ q.val < 5 then .send ⟨q.val - 2, by omega⟩ else if h : 6 ≤ q.val ∧ q.val < 9 then .recv ⟨q.val - 6, by omega⟩ else .idle

theorem role_bar : role (.reg barS) = .bar := rfl
theorem role_send : ∀ e, role (.dma (sendS e)) = .send e := by decide
theorem role_recv : ∀ e : Fin 3, role (.dma (recvS e.succ)) = .recv e := by decide
theorem role_spare : role (.dma (recvS 0)) = .idle := by decide

/-- The duties of a semaphore in the one round: a barrier's are the devices above; a send or receive semaphore's the one copy, if
    there is one. -/
def dutiesOf (c : Dev nD) : Role → Finset (Fin 3)
  | .bar => Finset.univ.filter fun e => Hi e c
  | .send e => if Hi e c then {0} else ∅
  | .recv e => if Lo e c then {0} else ∅
  | .idle => ∅

/-- What the device `e + 1` places above hands to the barrier of `c`: the row that `c` will copy to, and that its receive
    semaphore is at its first round. -/
def barPay (e : Fin 3) (c : Dev nD) : sProp 𝕄 := iprop((∃ f, slotPts e.succ fullShare (up e c) f) ∗ reached ER (recvCell e (up e c)) 0)
/-- What a finished copy returns to its sender: its share of row 0. -/
def sendPay (e : Fin 3) (c : Dev nD) : sProp 𝕄 := slotPts 0 (sh e) c (totals m ρ c)
/-- What a finished copy hands to its receiver: the row, holding the sender's totals. -/
def recvPay (e : Fin 3) (c : Dev nD) : sProp 𝕄 := slotPts e.succ fullShare c (totals m ρ (dn e c))

/-- The payloads, by role. -/
def payOf (c : Dev nD) (d : Fin 3) : Role → sProp 𝕄
  | .bar => barPay d c
  | .send e => sendPay m ρ e c
  | .recv e => recvPay m ρ e c
  | .idle => iprop(emp)

/-- The amounts, by role: a signal is one unit, a copy one row's credit. -/
def amtOf : Role → ℕ
  | .bar => 1
  | _ => N

theorem amtOf_pos (r : Role) : 0 < amtOf r := by
  cases r
  · exact Nat.one_pos
  all_goals exact N_pos

/-- The exchange as a schedule of one round. -/
def Rd : Rounds.Schedule (GSem nD τ sig) (Fin 3) 𝕄 where
  duties g r := if r = 0 then dutiesOf g.1.1 (role g.2) else ∅
  unitless _ := False
  amount g _ _ := amtOf (role g.2)
  payload g _ d := payOf m ρ g.1.1 d (role g.2)
  amount_pos g _ _ _ := amtOf_pos _

instance Rd_storable (g : GSem nD τ sig) (r : ℕ) (d : Fin 3) :
    BI.Storable (upEmb : UEmb _ 𝕄) ((Rd (F := F) m ρ).payload g r d) := by
  show BI.Storable upEmb (payOf m ρ g.1.1 d (role g.2))
  unfold payOf barPay sendPay recvPay
  split <;> infer_instance

section Sched
variable (c : Dev nD) (e : Fin 3)

theorem duties_bar : (Rd (F := F) m ρ).duties (barCell c) 0 = Finset.univ.filter fun e => Hi e c := by
  dsimp only [Rd]; rw [if_pos rfl, role_bar]; rfl
theorem duties_send : (Rd (F := F) m ρ).duties (sendCell e c) 0 = if Hi e c then {0} else ∅ := by
  dsimp only [Rd]; rw [if_pos rfl, role_send]; rfl
theorem duties_recv : (Rd (F := F) m ρ).duties (recvCell e c) 0 = if Lo e c then {0} else ∅ := by
  dsimp only [Rd]; rw [if_pos rfl, role_recv]; rfl
theorem duties_spare : (Rd (F := F) m ρ).duties ((c : Thread nD τ), .dma (recvS 0)) 0 = ∅ := by
  dsimp only [Rd]; rw [if_pos rfl, role_spare]; rfl
theorem duties_later (g : GSem nD τ sig) : ∀ r, 1 ≤ r → (Rd (F := F) m ρ).duties g r = ∅ :=
  fun r hr => by dsimp only [Rd]; exact if_neg (by omega)
/-- A semaphore with no duty in the first round has none at all. -/
theorem duties_none {g : GSem nD τ sig} (h : (Rd (F := F) m ρ).duties g 0 = ∅) : ∀ r, 0 ≤ r → (Rd (F := F) m ρ).duties g r = ∅ := fun r _ => by
  rcases Nat.eq_zero_or_pos r with rfl | hr
  · exact h
  · exact duties_later m ρ g r hr

theorem amount_bar (d : Fin 3) : (Rd (F := F) m ρ).amount (barCell c) 0 d = 1 := rfl
theorem amount_send (d : Fin 3) : (Rd (F := F) m ρ).amount (sendCell e c) 0 d = N := by dsimp only [Rd]; rw [role_send]; rfl
theorem amount_recv (d : Fin 3) : (Rd (F := F) m ρ).amount (recvCell e c) 0 d = N := by dsimp only [Rd]; rw [role_recv]; rfl

theorem card_above : ∀ c : Dev nD, (Finset.univ.filter fun e : Fin 3 => Hi e c).card = 3 - c.val := by decide

theorem expect_bar : (Rd (F := F) m ρ).expect (barCell c) 0 = 3 - c.val := by
  unfold Schedule.expect Schedule.amountOf
  rw [duties_bar, Finset.sum_congr rfl fun d _ => amount_bar m ρ c d, Finset.sum_const, card_above, smul_eq_mul, Nat.mul_one]
theorem expect_send (h : Hi e c) : (Rd (F := F) m ρ).expect (sendCell e c) 0 = N := by
  unfold Schedule.expect Schedule.amountOf; rw [duties_send, if_pos h, Finset.sum_singleton, amount_send]
theorem expect_recv (h : Lo e c) : (Rd (F := F) m ρ).expect (recvCell e c) 0 = N := by
  unfold Schedule.expect Schedule.amountOf; rw [duties_recv, if_pos h, Finset.sum_singleton, amount_recv]

theorem payload_bar (d : Fin 3) : (Rd (F := F) m ρ).payload (barCell c) 0 d = barPay d c := rfl
theorem payload_send (d : Fin 3) : (Rd (F := F) m ρ).payload (sendCell e c) 0 d = sendPay m ρ e c := by dsimp only [Rd]; rw [role_send]; rfl
theorem payload_recv (d : Fin 3) : (Rd (F := F) m ρ).payload (recvCell e c) 0 d = recvPay m ρ e c := by dsimp only [Rd]; rw [role_recv]; rfl

/-- A resource held only when `p` holds. -/
def When (p : Prop) [Decidable p] (R : sProp 𝕄) : sProp 𝕄 := if p then R else iprop(emp)

omit [FloatOps F] in
theorem when_pos {p : Prop} [Decidable p] (h : p) (R : sProp 𝕄) : When p R = R := if_pos h
omit [FloatOps F] in
theorem when_neg {p : Prop} [Decidable p] (h : ¬p) (R : sProp 𝕄) : When p R = iprop(emp) := if_neg h

/-- The barrier's wait hands over the row of each device above. -/
theorem rest_bar : bigSep ((Rd (F := F) m ρ).duties (barCell c) 0 \ ∅) (fun d => (Rd (F := F) m ρ).payload (barCell c) 0 d)
    = iprop(When (Hi 0 c) (barPay 0 c) ∗ When (Hi 1 c) (barPay 1 c) ∗ When (Hi 2 c) (barPay (F := F) 2 c)) := by
  rw [Finset.sdiff_empty, duties_bar, bigSep_filter, bigSep_fin3]; rfl
theorem rest_send (h : Hi e c) : bigSep ((Rd (F := F) m ρ).duties (sendCell e c) 0 \ ∅) (fun d => (Rd (F := F) m ρ).payload (sendCell e c) 0 d) = sendPay m ρ e c := by
  rw [Finset.sdiff_empty, duties_send, if_pos h, bigSep_singleton, payload_send]
theorem rest_recv (h : Lo e c) : bigSep ((Rd (F := F) m ρ).duties (recvCell e c) 0 \ ∅) (fun d => (Rd (F := F) m ρ).payload (recvCell e c) 0 d) = recvPay m ρ e c := by
  rw [Finset.sdiff_empty, duties_recv, if_pos h, bigSep_singleton, payload_recv]

end Sched

/-! ## What each device owes at launch; the levels -/

/-- A debt of `n` units to `g`, owed only when `p` holds. -/
def due (p : Prop) [Decidable p] (g : GSem nD τ sig) (n : ℕ) : CellTallies nD τ sig Unit := if p then tallyAt g () n else 0

theorem due_pos {p : Prop} [Decidable p] {g g' : GSem nD τ sig} {n : ℕ} {u : Unit} (h : 0 < due p g n g' u) : p ∧ g' = g := by
  unfold due at h
  split at h
  · rename_i hp
    rw [tallyAt_apply] at h
    split at h
    · rename_i h'; exact ⟨hp, h'.1⟩
    · exact absurd h (Nat.lt_irrefl 0)
  · exact absurd h (Nat.lt_irrefl 0)

/-- The receive credit of the copy to the device `e + 1` places above; the unit to the barrier of the device `e + 1` places below. -/
def dueRecv (e : Fin 3) (c : Dev nD) : CellTallies nD τ sig Unit := due (Hi e c) (recvCell e (up e c)) N
def dueBar (e : Fin 3) (c : Dev nD) : CellTallies nD τ sig Unit := due (Lo e c) (barCell (dn e c)) 1

/-- What device `c` owes, innermost paid last: the copies in the order 1, 0, 2, after the signals in the order 0, 1, 2. -/
def O₅ (c : Dev nD) : CellTallies nD τ sig Unit := 0 + dueRecv 2 c
def O₄ (c : Dev nD) : CellTallies nD τ sig Unit := O₅ c + dueRecv 0 c
def O₃ (c : Dev nD) : CellTallies nD τ sig Unit := O₄ c + dueRecv 1 c
def O₂ (c : Dev nD) : CellTallies nD τ sig Unit := O₃ c + dueBar 2 c
def O₁ (c : Dev nD) : CellTallies nD τ sig Unit := O₂ c + dueBar 1 c
def O₀ (c : Dev nD) : CellTallies nD τ sig Unit := O₁ c + dueBar 0 c

/-- One index on every core of the mesh, none on the other threads; -/
def L (g : GSem nD τ sig) : Finset Unit := if g.1.2 = .tc then {()} else ∅
/-- receive semaphores above barriers above the rest. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (e : Fin 3) (c : Dev nD) (u : Unit) : lv (recvCell e c) u = 2 := by unfold lv; rw [role_recv]

theorem O₃_pos {c : Dev nD} {g : GSem nD τ sig} {u : Unit} (h : 0 < O₃ c g u) : ∃ e, g = recvCell e (up e c) := by
  unfold O₃ O₄ O₅ dueRecv at h
  simp only [Pi.add_apply, Finsupp.add_apply, zero_add, Pi.zero_apply, Finsupp.coe_zero] at h
  rcases Nat.add_pos_iff_pos_or_pos.mp h with h | h
  · rcases Nat.add_pos_iff_pos_or_pos.mp h with h | h
    · exact ⟨_, (due_pos h).2⟩
    · exact ⟨_, (due_pos h).2⟩
  · exact ⟨_, (due_pos h).2⟩
theorem O₀_pos {c : Dev nD} {g : GSem nD τ sig} {u : Unit} (h : 0 < O₀ c g u) :
    (∃ e, g = recvCell e (up e c)) ∨ ∃ e, g = barCell (dn e c) := by
  unfold O₀ O₁ O₂ dueBar at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (O₃_pos h)
      · exact .inr ⟨_, (due_pos h).2⟩
    · exact .inr ⟨_, (due_pos h).2⟩
  · exact .inr ⟨_, (due_pos h).2⟩

/-- A wait on a staging semaphore lies below everything a device owes at launch, and below nothing owed. -/
theorem mayWait_stage (c : Dev nD) (q : DmaSem sig) (hq : role (.dma q) = .idle) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨e, rfl⟩ <;> exact Finset.mem_singleton_self _)
      (fun p hp => by rw [Finset.mem_singleton.mp hp]; unfold lv; rw [hq])
      (fun g u hg => by
        rcases O₀_pos hg with ⟨e, rfl⟩ | ⟨e, rfl⟩
        · rw [lv_recv]; decide
        · rw [lv_bar]; decide)
  · rw [MayWait_zero]; iintro -; iempintro

/-- At its barrier's wait a device owes receive credits alone. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨e, rfl⟩ := O₃_pos hg; exact Finset.mem_singleton_self _)
    (fun p hp => by rw [Finset.mem_singleton.mp hp]; exact le_rfl)
    (fun g u hg => by obtain ⟨e, rfl⟩ := O₃_pos hg; rw [lv_recv]; decide)

end Cert.KernelIdealProof

end
-- ==== Proof.KernelIdealSteps.lean ====
/-
# The kernel's body as a line of steps

The printed body branches at every signal, copy and wait. This module writes the same program as a line of steps, each
taken or passed over by a condition, and states that the two are one program.
-/
module

public import proofs.«01_k».proof.Proof.KernelIdealProto

@[expose] public section

noncomputable section

namespace Cert.KernelIdealProof

open Cert.KernelIdeal Cert.KernelIdeal.Gen

open Idealize.ShloMosaic
open Idealize.ShloMosaic.TcCoe
open Idealize.SL.Sem

variable {F : FTy → Type} [FloatOps F]

/-- Programs of a device's core. -/
abbrev Code (F : FTy → Type) (α : Type) : Type 1 := Prog (TpuEff nD τ sig (Elt F) Λ₀ .tc) α

/-- The instruction `a`, run only when `p` holds, and then `k`. -/
def whenDo {α : Type} (p : Prop) [Decidable p] (a : p → TpuEff nD τ sig (Elt F) Λ₀ .tc PUnit) (k : Code F α) : Code F α :=
  if h : p then Prog.op (a h) (fun _ => k) else k

/-- One unit to the barrier of device `d`. -/
abbrev tell (d : Dev nD) : TpuEff nD τ sig (Elt F) Λ₀ .tc PUnit := .semSignal (Dev.tc d : Thread nD τ) barS (1#32).toInt

/-- The copy of row 0 into row `e + 1` of device `d`. -/
abbrev copy (e : Fin 3) (d : Dev nD) : TpuEff nD τ sig (Elt F) Λ₀ .tc PUnit :=
  .enqueueDma (slotM 0) (.remote (Dev.tc d : Thread nD τ) (slotM e.succ) (.dma (sendS e))) (.dma (recvS e.succ))
    ((View.wordExact_bits rfl).reshape _ _) ((View.wordExact_bits rfl).reshape _ _) ⟨⟨rfl, Or.inl rfl⟩, trivial⟩

/-- The wait for the copy into row `e + 1` to have landed; -/
abbrev awaitRecv (e : Fin 3) : TpuEff nD τ sig (Elt F) Λ₀ .tc PUnit :=
  .waitDma2 (recvS e.succ) (slotM 0) (slotM e.succ) ((View.wordExact_bits rfl).reshape _ _) ((View.wordExact_bits rfl).reshape _ _)
/-- the wait for the copy to row `e + 1` of the device above to have been read. -/
abbrev awaitSend (e : Fin 3) : TpuEff nD τ sig (Elt F) Λ₀ .tc PUnit :=
  .waitDma2 (sendS e) (slotM e.succ) (slotM 0) ((View.wordExact_bits rfl).reshape _ _) ((View.wordExact_bits rfl).reshape _ _)

/-- The load of row `j`. -/
abbrev loadRow (j : Fin 4) : TpuEff nD τ sig (Elt F) Λ₀ .tc (Vec F S1x1x256 .f32) :=
  .load gM (slotR j).toLoadRect (View.loadsAt_vmem h_S1x1x256)

/-- The whole of a block. -/
abbrev r0 : Rect S256x256 := Rect.unit (s := S256x256) ![0, 0] S256x256.size inb_S256x256_S256x256_0_0

/-- "There are `n` devices below", as the kernel asks it before a wait, from its place `v`; "`n` above". -/
abbrev askLo (v : BitVec 32) (n : BitVec 32) : Prop := Scalar.cmpi .ne (Scalar.extui (Scalar.cmpi .sge v n) : BitVec 32) 0#32 = 1#1
abbrev askHi (v : BitVec 32) (n : BitVec 32) : Prop := Scalar.cmpi .ne (Scalar.extui (Scalar.cmpi .sle (Scalar.addi v n) 3#32) : BitVec 32) 0#32 = 1#1

/-- The first part: the signals, the totals, the barrier, the first copy. -/
def line1 : Code F (Σ' (d0 : Dev nD) (v2 : BitVec 32), FVec F S256x256 .f32) :=
  Prog.op .deviceId fun d =>
  whenDo (k0_cond1 d = 1#1) (fun h => tell ⟨k0_dev1 d, k0_dev1_lt d h⟩) <|
  whenDo (k0_cond2 d = 1#1) (fun h => tell ⟨k0_dev2 d, k0_dev2_lt d h⟩) <|
  whenDo (k0_cond3 d = 1#1) (fun h => tell ⟨k0_dev3 d, k0_dev3_lt d h⟩) <|
  Prog.op (.load xM r0.toLoadRect (View.loadsAt_vmem h_S256x256)) fun x =>
  Prog.op (loadRow 0) fun _ =>
  Prog.op (.store gM (slotR 0) (k0_pay3 x) Finset.univ (View.stores_vmem_bits_univ h_S1x1x256 rfl) (.inl rfl)) fun _ =>
  Prog.op (.semWait barS (k0_amt1 d).toInt) fun _ =>
  whenDo (k0_cond4 d = 1#1) (fun h => copy 1 ⟨k0_dev4 d, k0_dev4_lt d h⟩) <|
  Prog.ret ⟨d, place d, k0_pay4 x⟩

/-- The second part: the other copies, the waits for what comes from below, the loads of the nearest two rows. -/
def line2 (d : Dev nD) (v : BitVec 32) : Code F (Σ' (v63 : FVec F S1x256 .f32), BitVec 1) :=
  whenDo (k0_cond5 d = 1#1) (fun h => copy 0 ⟨k0_dev5 d, k0_dev5_lt d h⟩) <|
  whenDo (k0_cond6 d = 1#1) (fun h => copy 2 ⟨k0_dev6 d, k0_dev6_lt d h⟩) <|
  whenDo (askLo v 1#32) (fun _ => awaitRecv 0) <|
  whenDo (askLo v 3#32) (fun _ => awaitRecv 2) <|
  whenDo (askLo v 2#32) (fun _ => awaitRecv 1) <|
  Prog.op (loadRow 1) fun y1 =>
  Prog.op (loadRow 2) fun y2 =>
  Prog.ret ⟨k0_pay5 v y1 y2, Scalar.cmpi .sge v 3#32⟩

/-- The rest: the load of the farthest row, the result, the waits for the device's own copies. -/
def line3 (v : BitVec 32) (u : FVec F S256x256 .f32) (y : FVec F S1x256 .f32) (b : BitVec 1) : Code F PUnit :=
  Prog.op (loadRow 3) fun y3 =>
  Prog.op (.load oM r0.toLoadRect (View.loadsAt_vmem h_S256x256)) fun _ =>
  Prog.op (.store oM r0 (k0_pay1 u y b y3) Finset.univ
    (View.stores_vmem h_S256x256 ((Memref.isWhole_whole cc0_stg1_0).storeExact_slice rfl _ packedbf16_S256x256_S256x256_0_0) (fun _ => rfl)) (.inl rfl)) fun _ =>
  whenDo (askHi v 1#32) (fun _ => awaitSend 0) <|
  whenDo (askHi v 2#32) (fun _ => awaitSend 1) <|
  whenDo (askHi v 3#32) (fun _ => awaitSend 2) <|
  Prog.ret ⟨⟩

set_option maxRecDepth 65536 in
theorem part1_line : k0_part1 (F := F) xM (Memref.isWhole_whole _) oM (Memref.isWhole_whole _) gM (Memref.isWhole_whole _) cc0_scratch1 cc0_scratch2 = line1 := by
  rw [k0_part1_eq_skeleton]; rfl

set_option maxRecDepth 65536 in
theorem part2_line (d : Dev nD) (v : BitVec 32) :
    k0_part2 (F := F) xM (Memref.isWhole_whole _) oM (Memref.isWhole_whole _) gM (Memref.isWhole_whole _) cc0_scratch1 cc0_scratch2 d v = line2 d v := by
  rw [k0_part2_eq_skeleton]; rfl

set_option maxRecDepth 65536 in
/-- The printed body is the three parts in a row. -/
theorem body_line :
    cc0_body (F := F) xM (Memref.isWhole_whole _) oM (Memref.isWhole_whole _) gM (Memref.isWhole_whole _) cc0_scratch1 cc0_scratch2
      = line1 >>= fun a => line2 a.1 a.2.1 >>= fun b => line3 a.2.1 a.2.2 b.1 b.2 := by
  rw [← part1_line, cc0_body_eq_skeleton]
  exact congrArg (fun f => k0_part1 (F := F) xM (Memref.isWhole_whole _) oM (Memref.isWhole_whole _) gM (Memref.isWhole_whole _) cc0_scratch1 cc0_scratch2 >>= f)
    (funext fun a => by rw [← part2_line]; rfl)

end Cert.KernelIdealProof

end
-- ==== Proof.KernelIdealRules.lean ====
/-
# One rule for each kind of step

A signal, the barrier's wait, a copy, and the two kinds of wait at a copy's ends, each as one rule that covers the device
that takes the step and the device that passes over it.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells, numbered -/

set_option backward.proofsInPublic true in
/-- The exchange's semaphores: the barrier, the three send semaphores, the four receive semaphores. -/
def csem (k : Fin 8) : SemLoc sig := if k = 0 then .reg barS else .dma ⟨k.val + 1, show k.val + 1 < 9 by omega⟩
abbrev kcell (ck : Dev nD × Fin 8) : GSem nD τ sig := ((ck.1 : Thread nD τ), csem ck.2)

set_option backward.proofsInPublic true in
abbrev sendIx (e : Fin 3) : Fin 8 := ⟨1 + e.val, by omega⟩
set_option backward.proofsInPublic true in
abbrev recvIx (j : Fin 4) : Fin 8 := ⟨4 + j.val, by omega⟩

theorem csem_bar : csem 0 = .reg barS := rfl
theorem csem_send : ∀ e, csem (sendIx e) = .dma (sendS e) := by decide
theorem csem_recv : ∀ j, csem (recvIx j) = .dma (recvS j) := by decide

variable (K : Dev nD × Fin 8 → ℕ)

/-- Every cell's invariant, and that every cell is at its first round: what all the devices share. -/
def records : sProp 𝕄 :=
  iprop((bigSep Finset.univ fun ck => cellInv ER (Rd m ρ) (K ck) (kcell ck)) ∗ bigSep Finset.univ fun ck => reached ER (kcell ck) 0)

instance records_persistent : BI.Persistent (records m ρ K) := by unfold records; infer_instance

theorem inv_at (ck : Dev nD × Fin 8) : records m ρ K ⊢ cellInv ER (Rd m ρ) (K ck) (kcell ck) := by
  unfold records
  exact sep_elim_left.trans (bigSep_elim (Finset.mem_univ ck))
theorem reached_at (ck : Dev nD × Fin 8) : records m ρ K ⊢ reached ER (kcell ck) 0 := by
  unfold records
  exact sep_elim_right.trans (bigSep_elim (Finset.mem_univ ck))

theorem inv_bar (c : Dev nD) : records m ρ K ⊢ cellInv ER (Rd m ρ) (K (c, 0)) (barCell c) := inv_at m ρ K (c, 0)
theorem inv_send (e : Fin 3) (c : Dev nD) : records m ρ K ⊢ cellInv ER (Rd m ρ) (K (c, sendIx e)) (sendCell e c) :=
  (inv_at m ρ K (c, sendIx e)).trans (Entails.of_eq (by rw [kcell, csem_send]))
theorem inv_recv (j : Fin 4) (c : Dev nD) : records m ρ K ⊢ cellInv ER (Rd m ρ) (K (c, recvIx j)) ((c : Thread nD τ), .dma (recvS j)) :=
  (inv_at m ρ K (c, recvIx j)).trans (Entails.of_eq (by rw [kcell, csem_recv]))
theorem reached_bar (c : Dev nD) : records m ρ K ⊢ reached ER (barCell c) 0 := reached_at m ρ K (c, 0)
theorem reached_send (e : Fin 3) (c : Dev nD) : records m ρ K ⊢ reached ER (sendCell e c) 0 :=
  (reached_at m ρ K (c, sendIx e)).trans (Entails.of_eq (by rw [kcell, csem_send]))
theorem reached_recv (e : Fin 3) (c : Dev nD) : records m ρ K ⊢ reached ER (recvCell e c) 0 :=
  (reached_at m ρ K (c, recvIx e.succ)).trans (Entails.of_eq (by rw [kcell, csem_recv]))

/-! ## The rules -/

/-- What device `c` still owes, whatever it has waited for. -/
def ow (c : Dev nD) (O : CellTallies nD τ sig Unit) : sProp 𝕄 := iprop(∃ W, owes (c : Thread nD τ) O W)
/-- Row `e + 1` of device `c`, at any contents. -/
def spare (e : Fin 3) (c : Dev nD) : sProp 𝕄 := iprop(∃ f, slotPts e.succ fullShare c f)

/-- A core's runs. -/
abbrev runs {α : Type} (c : Dev nD) (k : Code F α) (Kt : α → sProp 𝕄) : sProp 𝕄 := wp frame (wpE (defs₀ (F := F)) 𝒱₀ (c : Thread nD τ) none) Set.univ k Kt

section Rules
variable {α : Type} {k : Code F α} {p : Prop} [Decidable p] (e : Fin 3) (c : Dev nD) (O : CellTallies nD τ sig Unit)

omit [FloatOps F] in
theorem due_pos_eq {q : Prop} [Decidable q] (h : q) (g : GSem nD τ sig) (n : ℕ) : due q g n = tallyAt g () n := if_pos h
omit [FloatOps F] in
theorem due_neg_eq {q : Prop} [Decidable q] (h : ¬q) (g : GSem nD τ sig) (n : ℕ) : due q g n = 0 := if_neg h

/-- A device with one `e + 1` places below signals it and hands over the row that one will copy to; otherwise it keeps the row. -/
theorem wp_tell {Kt : α → sProp 𝕄} (hp : p ↔ Lo e c) (dev : p → Dev nD) (hdev : ∀ h, dev h = dn e c) :
    iprop(records m ρ K ∗ ow c (O + dueBar e c) ∗ dutyTok ER (barCell (dn e c)) 0 e ∗ spare e c)
      ⊢ iprop(((ow c O ∗ When (¬Lo e c) (spare e c)) -∗ runs c k Kt) -∗ runs c (whenDo p (fun h => tell (dev h)) k) Kt) := by
  unfold ow dueBar
  by_cases h : p
  · have hl := hp.mp h
    rw [whenDo, dif_pos h, hdev h, due_pos_eq hl, when_neg (not_not_intro hl)]
    iintro ⟨#HR, ⟨%W, HO⟩, Ht, Hs⟩ Hk
    iapply (Rounds.wp_signal 𝒱₀ ER (Rd m ρ) (c : Thread nD τ) none (dst := (dn e c : Thread nD τ)) (κ := K (dn e c, 0)) (d := e)
      (by rw [duties_bar]; exact Finset.mem_filter.mpr ⟨Finset.mem_univ _, (hi_dn e c).mpr hl⟩) (amount_bar m ρ (dn e c) e) () O rfl) $$ [HO Ht Hs]
    · isplitr; · iapply (inv_bar m ρ K (dn e c)); iexact HR
      isplitl [HO]; · iexact HO
      isplitl [Ht]; · iexact Ht
      isplitl [Hs]
      · rw [payload_bar]; unfold barPay spare; rw [up_dn]
        isplitl [Hs]; · iexact Hs
        iapply (reached_recv m ρ K e c); iexact HR
      · iapply (reached_bar m ρ K (dn e c)); iexact HR
    iintro HO
    iapply Hk
    isplitl [HO]; · iexists W; iexact HO
    iempintro
  · have hl : ¬Lo e c := fun hl => h (hp.mpr hl)
    rw [whenDo, dif_neg h, due_neg_eq hl, when_pos hl, add_zero]
    iintro ⟨-, HO, -, Hs⟩ Hk
    iapply Hk
    isplitl [HO] <;> iassumption

/-- The barrier's wait: one unit from each device above, each with the row to copy to. -/
theorem wp_bar {Kt : α → sProp 𝕄} {k : PUnit → Code F α} :
    iprop(records m ρ K ∗ levAts L lv ∗ ow c (O₃ c) ∗ cred (tallyAt (barCell c) () (3 - c.val)) ∗ atPos ER (barCell c) 0 ∅ 0)
      ⊢ iprop(((ow c (O₃ c) ∗ semVal (barCell c) 0 ∗ When (Hi 0 c) (barPay 0 c) ∗ When (Hi 1 c) (barPay 1 c) ∗ When (Hi 2 c) (barPay 2 c)) -∗ runs c (k ⟨⟩) Kt)
          -∗ runs c (.op (.semWait barS (k0_amt1 c).toInt) k) Kt) := by
  unfold ow
  rw [amt_eq]
  iintro ⟨#HR, #Hlev, ⟨%W, HO⟩, Hc, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := O₃ c) (W := W) (R := 0) (m := 0) (T := ∅)
      (by rw [expect_bar, Nat.zero_add])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  imod (Rounds.cell_close ER (Rd m ρ) (Set.mem_univ (K (c, 0))) (fun h => h) (R := 0 + 1) (duties_later m ρ (barCell c))) $$ [Hat] with Hz
  · isplitr; · iapply (inv_bar m ρ K c); iexact HR
    iexact Hat
  iapply Hk
  isplitl [HO]; · iexists _; iexact HO
  isplitl [Hz]; · iexact Hz
  iapply (Entails.of_eq (rest_bar m ρ c)); iexact Hpay

omit [FloatOps F] in
/-- Every row's copy credits the same. -/
theorem credit_eq (j : Fin 4) : (slotM j).view.dmaCredit = N := rfl

/-- The copy itself, on a device with one `e + 1` places above: it lends its share of row 0 and takes the row it writes. -/
theorem wp_copy_there {Kt : α → sProp 𝕄} (hl : Hi e c) (f : Buf (Elt F) ((up e c : Thread nD τ).loc cc0_scratch0)) (W : Waits sig Unit) :
    iprop(cellInv ER (Rd m ρ) (K (c, sendIx e)) (sendCell e c) ∗ cellInv ER (Rd m ρ) (K (up e c, recvIx e.succ)) (recvCell e (up e c))
        ∗ slotPts 0 (sh e) c (totals m ρ c) ∗ slotPts e.succ fullShare (up e c) f ∗ owes (c : Thread nD τ) (O + tallyAt (recvCell e (up e c)) () N) W
        ∗ dutyTok ER (sendCell e c) 0 0 ∗ reached ER (sendCell e c) 0 ∗ dutyTok ER (recvCell e (up e c)) 0 0 ∗ reached ER (recvCell e (up e c)) 0)
      ⊢ iprop(((cred (tallyAt (sendCell e c) () N) ∗ owes (c : Thread nD τ) O W) -∗ runs c k Kt) -∗ runs c (.op (copy e (up e c)) fun _ => k) Kt) := by
  have h0 : slotPts 0 (sh e) c (totals m ρ c) = (((slotM 0).view.loc (c : Thread nD τ)) ↦[(slotM 0).view.set]{sh e} totals m ρ c : sProp 𝕄) := by rw [slot_set]; rfl
  have h1 : ∀ g, slotPts e.succ fullShare (up e c) g = (((slotM e.succ).view.loc (up e c : Thread nD τ)) ↦[(slotM e.succ).view.set]{fullShare} g : sProp 𝕄) :=
    fun g => by rw [slot_set]; rfl
  rw [h0, h1]
  exact Rounds.wp_send_pointsTo 𝒱₀ ER (Rd m ρ) (c : Thread nD τ) none (c' := (up e c : Thread nD τ)) (src := slotM 0) (dst := slotM e.succ)
    (sS := .dma (sendS e)) (sem := .dma (recvS e.succ)) (q := sh e) (fs := totals m ρ c) (k := fun _ => k) (κ₁ := K (c, sendIx e)) (κ₂ := K (up e c, recvIx e.succ))
    (r₁ := 0) (r₂ := 0) (d₁ := 0) (d₂ := 0) (fd := f)
    (by rw [duties_send, if_pos hl]; exact Finset.mem_singleton_self _)
    (by rw [duties_recv, if_pos ((lo_up e c).mpr hl)]; exact Finset.mem_singleton_self _)
    () () N (credit_eq e.succ) (amount_send m ρ c e 0) (amount_recv m ρ (up e c) e 0) O rfl (W := W)
    (by rw [payload_send, ← h0]; exact BI.Entails.refl _)
    (by rw [payload_recv, ← h1]; unfold recvPay; rw [dn_up]; exact Entails.of_eq (copied_eq e.succ 0 fullShare (up e c) f _))

/-- A device with one `e + 1` places above copies its row of totals there, lending its share of row 0; otherwise it keeps the share. -/
theorem wp_copy {Kt : α → sProp 𝕄} (hp : p ↔ Hi e c) (dev : p → Dev nD) (hdev : ∀ h, dev h = up e c) :
    iprop(records m ρ K ∗ ow c (O + dueRecv e c) ∗ sendPay m ρ e c ∗ When (Hi e c) (barPay e c)
        ∗ dutyTok ER (sendCell e c) 0 0 ∗ dutyTok ER (recvCell e (up e c)) 0 0)
      ⊢ iprop(((ow c O ∗ When (Hi e c) (cred (tallyAt (sendCell e c) () N)) ∗ When (¬Hi e c) (sendPay m ρ e c)) -∗ runs c k Kt)
          -∗ runs c (whenDo p (fun h => copy e (dev h)) k) Kt) := by
  unfold ow dueRecv
  by_cases h : p
  · have hl := hp.mp h
    rw [whenDo, dif_pos h, hdev h, due_pos_eq hl, when_neg (not_not_intro hl), when_pos hl, when_pos hl]
    unfold barPay
    iintro ⟨#HR, ⟨%W, HO⟩, Hs, ⟨⟨%f, Hd⟩, -⟩, Ht, Ht'⟩ Hk
    iapply (wp_copy_there m ρ K e c O hl f W) $$ [HO Hs Hd Ht Ht']
    · isplitr; · iapply (inv_send m ρ K e c); iexact HR
      isplitr; · iapply (inv_recv m ρ K e.succ (up e c)); iexact HR
      isplitl [Hs]; · unfold sendPay; iexact Hs
      isplitl [Hd]; · iexact Hd
      isplitl [HO]; · iexact HO
      isplitl [Ht]; · iexact Ht
      isplitr; · iapply (reached_send m ρ K e c); iexact HR
      isplitl [Ht']; · iexact Ht'
      iapply (reached_recv m ρ K e (up e c)); iexact HR
    iintro ⟨Hc, HO⟩
    iapply Hk
    isplitl [HO]; · iexists W; iexact HO
    isplitl [Hc]; · iexact Hc
    iempintro
  · have hl : ¬Hi e c := fun hl => h (hp.mpr hl)
    rw [whenDo, dif_neg h, due_neg_eq hl, when_pos hl, when_neg hl, when_neg hl, add_zero]
    iintro ⟨-, HO, Hs, -, -, -⟩ Hk
    iapply Hk
    isplitl [HO]; · iexact HO
    isplitr; · iempintro
    iexact Hs

/-- A device with one `e + 1` places below waits for that one's totals; either way row `e + 1` is its own and the receive semaphore is at
    zero. -/
theorem wp_recv {Kt : α → sProp 𝕄} (hp : p ↔ Lo e c) :
    iprop(records m ρ K ∗ ow c 0 ∗ When (Lo e c) (cred (tallyAt (recvCell e c) () N)) ∗ When (¬Lo e c) (spare e c) ∗ atPos ER (recvCell e c) 0 ∅ 0)
      ⊢ iprop(((ow c 0 ∗ semVal (recvCell e c) 0 ∗ ∃ f, ⌜Lo e c → f = totals m ρ (dn e c)⌝ ∗ slotPts e.succ fullShare c f) -∗ runs c k Kt)
          -∗ runs c (whenDo p (fun _ => awaitRecv e) k) Kt) := by
  unfold ow spare
  by_cases h : p
  · have hl := hp.mp h
    rw [whenDo, dif_pos h, when_neg (not_not_intro hl), when_pos hl]
    iintro ⟨#HR, ⟨%W, HO⟩, Hc, -, Hat⟩ Hk
    iapply (Rounds.wp_wait_rest_token 𝒱₀ ER (Rd m ρ) (c : Thread nD τ) none (κ := K (c, recvIx e.succ))
      (wpE_waitDma2_eq 𝒱₀ (c : Thread nD τ) none Set.univ) (Set.mem_univ _) () (O := 0) (W := W) (R := 0) (m := 0) (T := ∅)
      (by rw [expect_recv m ρ c e hl, Nat.zero_add])) $$ [Hc HO Hat]
    · isplitr; · iapply (inv_recv m ρ K e.succ c); iexact HR
      isplitl [Hc]; · iexact Hc
      isplitl [HO]; · iexact HO
      isplitr; · rw [MayWait_zero]; iempintro
      iexact Hat
    iintro ⟨HO, Hat, -, Hpay⟩
    imod (Rounds.cell_close ER (Rd m ρ) (Set.mem_univ (K (c, recvIx e.succ))) (fun h => h) (R := 0 + 1) (duties_later m ρ (recvCell e c))) $$ [Hat] with Hz
    · isplitr; · iapply (inv_recv m ρ K e.succ c); iexact HR
      iexact Hat
    iapply Hk
    isplitl [HO]; · iexists _; iexact HO
    isplitl [Hz]; · iexact Hz
    iexists (totals m ρ (dn e c))
    isplitr; · ipureintro; exact fun _ => rfl
    iapply (Entails.of_eq (show _ = slotPts e.succ fullShare c (totals m ρ (dn e c)) from rest_recv m ρ c e hl)); iexact Hpay
  · have hl : ¬Lo e c := fun hl => h (hp.mpr hl)
    rw [whenDo, dif_neg h, when_pos hl, when_neg hl]
    iintro ⟨#HR, HO, -, ⟨%f, Hs⟩, Hat⟩ Hk
    imod (Rounds.cell_close ER (Rd m ρ) (Set.mem_univ (K (c, recvIx e.succ))) (fun h => h) (R := 0)
      (duties_none m ρ (by rw [duties_recv, if_neg hl]))) $$ [Hat] with Hz
    · isplitr; · iapply (inv_recv m ρ K e.succ c); iexact HR
      iexact Hat
    iapply Hk
    isplitl [HO]; · iexact HO
    isplitl [Hz]; · iexact Hz
    iexists f
    isplitr; · ipureintro; exact fun h' => absurd h' hl
    iexact Hs

/-- A device with one `e + 1` places above waits for its copy to have been read; either way the share of row 0 is back and the send
    semaphore is at zero. -/
theorem wp_sent {Kt : α → sProp 𝕄} (hp : p ↔ Hi e c) :
    iprop(records m ρ K ∗ ow c 0 ∗ When (Hi e c) (cred (tallyAt (sendCell e c) () N)) ∗ When (¬Hi e c) (sendPay m ρ e c) ∗ atPos ER (sendCell e c) 0 ∅ 0)
      ⊢ iprop(((ow c 0 ∗ semVal (sendCell e c) 0 ∗ sendPay m ρ e c) -∗ runs c k Kt)
          -∗ runs c (whenDo p (fun _ => awaitSend e) k) Kt) := by
  unfold ow
  by_cases h : p
  · have hl := hp.mp h
    rw [whenDo, dif_pos h, when_neg (not_not_intro hl), when_pos hl]
    iintro ⟨#HR, ⟨%W, HO⟩, Hc, -, Hat⟩ Hk
    iapply (Rounds.wp_wait_rest_token 𝒱₀ ER (Rd m ρ) (c : Thread nD τ) none (κ := K (c, sendIx e))
      (wpE_waitDma2_eq 𝒱₀ (c : Thread nD τ) none Set.univ) (Set.mem_univ _) () (O := 0) (W := W) (R := 0) (m := 0) (T := ∅)
      (by rw [expect_send m ρ c e hl, Nat.zero_add])) $$ [Hc HO Hat]
    · isplitr; · iapply (inv_send m ρ K e c); iexact HR
      isplitl [Hc]; · iexact Hc
      isplitl [HO]; · iexact HO
      isplitr; · rw [MayWait_zero]; iempintro
      iexact Hat
    iintro ⟨HO, Hat, -, Hpay⟩
    imod (Rounds.cell_close ER (Rd m ρ) (Set.mem_univ (K (c, sendIx e))) (fun h => h) (R := 0 + 1) (duties_later m ρ (sendCell e c))) $$ [Hat] with Hz
    · isplitr; · iapply (inv_send m ρ K e c); iexact HR
      iexact Hat
    iapply Hk
    isplitl [HO]; · iexists _; iexact HO
    isplitl [Hz]; · iexact Hz
    iapply (Entails.of_eq (rest_send m ρ c e hl)); iexact Hpay
  · have hl : ¬Hi e c := fun hl => h (hp.mpr hl)
    rw [whenDo, dif_neg h, when_pos hl, when_neg hl]
    iintro ⟨#HR, HO, -, Hs, Hat⟩ Hk
    imod (Rounds.cell_close ER (Rd m ρ) (Set.mem_univ (K (c, sendIx e))) (fun h => h) (R := 0)
      (duties_none m ρ (by rw [duties_send, if_neg hl]))) $$ [Hat] with Hz
    · isplitr; · iapply (inv_send m ρ K e c); iexact HR
      iexact Hat
    iapply Hk
    isplitl [HO]; · iexact HO
    isplitl [Hz]; · iexact Hz
    iexact Hs

/-- Loading row `j`; -/
theorem wp_load_row {Kt : α → sProp 𝕄} (j : Fin 4) (q : PosShare TreeShare) (f : Buf (Elt F) ((c : Thread nD τ).loc cc0_scratch0)) {k : Vec F S1x1x256 .f32 → Code F α} :
    slotPts j q c f ⊢ iprop((slotPts j q c f -∗ runs c (k (gM.view.readAt (Elt F) (slotR j).toLoadRect f)) Kt) -∗ runs c (.op (loadRow j) k) Kt) := by
  unfold slotPts
  exact wp_load 𝒱₀ (c : Thread nD τ) none Set.univ (m := gM) ((View.set_slice gM.view (slotR j)).symm.trans (access_set j)).subset
/-- storing a row `t` into row 0. -/
theorem wp_store_row {Kt : α → sProp 𝕄} (f : Buf (Elt F) ((c : Thread nD τ).loc cc0_scratch0)) (t : FVec F S1x1x256 .f32) {k : PUnit → Code F α}
    {hx : (gM.access (slotR 0)).Stores Finset.univ} {hm} :
    slotPts 0 fullShare c f ⊢ iprop((slotPts 0 fullShare c (rows t) -∗ runs c (k ⟨⟩) Kt) -∗ runs c (.op (.store gM (slotR 0) t Finset.univ hx hm) k) Kt) := by
  rw [← stored_eq fullShare c f t]
  unfold slotPts
  exact wp_store 𝒱₀ (c : Thread nD τ) none Set.univ (m := gM) (r := slotR 0) (Mk := Finset.univ) (by rw [View.setOn_univ]; exact (access_set 0).subset)

end Rules

end Cert.KernelIdealProof

end
-- ==== Proof.KernelIdealBody.lean ====
/-
# The body's run

What a device holds when its body starts and when it ends, and the body's run from the one to the other: the rules of
the steps, one after the other in the program's order.
-/
module

public import proofs.«01_k».proof.Proof.KernelIdealRules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device computes -/

/-- Device `c`'s result: its own running products, times the totals of the devices below. -/
def outAt (c : Dev nD) : (cc0_stg1_0 : Ref sig .tc).ty.Contents (Elt F) :=
  k0_pay1 (k0_pay4 (xstg m ρ c)) (k0_pay5 (place c) (k0_pay3 (xstg m ρ (dn 0 c))) (k0_pay3 (xstg m ρ (dn 1 c))))
    (Scalar.cmpi .sge (place c) 3#32) (k0_pay3 (xstg m ρ (dn 2 c)))

/-- A row that is selected only when there is a device below matters only then. -/
theorem select_below {A : Type} (e : Fin 3) (c : Dev nD) (a b o : A) (h : Lo e c → a = b) :
    Scalar.select (Scalar.cmpi .sge (place c) (BitVec.ofNat 32 (e.val + 1))) a o = Scalar.select (Scalar.cmpi .sge (place c) (BitVec.ofNat 32 (e.val + 1))) b o := by
  unfold Scalar.select
  split
  · rename_i h'; exact h ((sge_iff c e).mp h')
  · rfl

/-- The result computed from the three landed rows, each known only when there is a device that far below. -/
theorem outAt_eq (c : Dev nD) (y1 y2 y3 : FVec F S1x1x256 .f32) (h1 : Lo 0 c → y1 = k0_pay3 (xstg m ρ (dn 0 c))) (h2 : Lo 1 c → y2 = k0_pay3 (xstg m ρ (dn 1 c)))
    (h3 : Lo 2 c → y3 = k0_pay3 (xstg m ρ (dn 2 c))) :
    k0_pay1 (k0_pay4 (xstg m ρ c)) (k0_pay5 (place c) y1 y2) (Scalar.cmpi .sge (place c) 3#32) y3 = outAt m ρ c := by
  have s1 := select_below 0 c (shapeCast S1x256 y1 shapeCasts_S1x1x256_S1x256) (shapeCast S1x256 (k0_pay3 (xstg m ρ (dn 0 c))) shapeCasts_S1x1x256_S1x256)
    (broadcast S1x256 (Scalar.ofBits .f32 0x3F800000#32)) (fun h => by rw [h1 h])
  have s2 := select_below 1 c (shapeCast S1x256 y2 shapeCasts_S1x1x256_S1x256) (shapeCast S1x256 (k0_pay3 (xstg m ρ (dn 1 c))) shapeCasts_S1x1x256_S1x256)
    (broadcast S1x256 (Scalar.ofBits .f32 0x3F800000#32)) (fun h => by rw [h2 h])
  have s3 := select_below 2 c (shapeCast S1x256 y3 shapeCasts_S1x1x256_S1x256) (shapeCast S1x256 (k0_pay3 (xstg m ρ (dn 2 c))) shapeCasts_S1x1x256_S1x256)
    (broadcast S1x256 (Scalar.ofBits .f32 0x3F800000#32)) (fun h => by rw [h3 h])
  have p5 : k0_pay5 (place c) y1 y2 = k0_pay5 (place c) (k0_pay3 (xstg m ρ (dn 0 c))) (k0_pay3 (xstg m ρ (dn 1 c))) := by
    unfold k0_pay5
    exact congrArg₂ mulf (congrArg (mulf _) s1) s2
  unfold outAt
  rw [p5]
  unfold k0_pay1
  exact congrArg (fun z => truncf .bf16 (mulf _ (broadcastTo S256x256 (mulf _ z) broadcasts_S1x256_S256x256)) bitsLt_bf16_f32) s3

/-! ## What a device holds -/

/-- The duties device `c` performs: the signals to the devices below, its own copies' two ends. -/
def payToks (c : Dev nD) : sProp 𝕄 :=
  iprop((dutyTok ER (barCell (dn 0 c)) 0 0 ∗ dutyTok ER (barCell (dn 1 c)) 0 1 ∗ dutyTok ER (barCell (dn 2 c)) 0 2)
    ∗ (dutyTok ER (sendCell 0 c) 0 0 ∗ dutyTok ER (sendCell 1 c) 0 0 ∗ dutyTok ER (sendCell 2 c) 0 0)
    ∗ (dutyTok ER (recvCell 0 (up 0 c)) 0 0 ∗ dutyTok ER (recvCell 1 (up 1 c)) 0 0 ∗ dutyTok ER (recvCell 2 (up 2 c)) 0 0))

/-- Its own semaphores' positions, all before the first round. -/
def positions (c : Dev nD) : sProp 𝕄 :=
  iprop(atPos ER (barCell c) 0 ∅ 0
    ∗ (atPos ER (sendCell 0 c) 0 ∅ 0 ∗ atPos ER (sendCell 1 c) 0 ∅ 0 ∗ atPos ER (sendCell 2 c) 0 ∅ 0)
    ∗ (atPos ER ((c : Thread nD τ), .dma (recvS 0)) 0 ∅ 0 ∗ atPos ER (recvCell 0 c) 0 ∅ 0 ∗ atPos ER (recvCell 1 c) 0 ∅ 0 ∗ atPos ER (recvCell 2 c) 0 ∅ 0))

/-- The exchange's state on device `c`. -/
def ghost (K : Dev nD × Fin 8 → ℕ) (c : Dev nD) : sProp 𝕄 := iprop(records m ρ K ∗ positions c ∗ payToks c)

/-- What it will be paid: a unit from each device above, a copy from each device below. -/
def income (c : Dev nD) : sProp 𝕄 :=
  iprop(cred (tallyAt (barCell c) () (3 - c.val)) ∗ When (Lo 0 c) (cred (tallyAt (recvCell 0 c) () N)) ∗ When (Lo 1 c) (cred (tallyAt (recvCell 1 c) () N))
    ∗ When (Lo 2 c) (cred (tallyAt (recvCell 2 c) () N)))

def start (c : Dev nD) : sProp 𝕄 := iprop((∃ K, ghost m ρ K c) ∗ income c ∗ levAts L lv)

/-- The four rows of its buffer, at any contents. -/
def anyRows (c : Dev nD) : sProp 𝕄 := iprop((∃ f, slotPts 0 fullShare c f) ∗ spare 0 c ∗ spare 1 c ∗ spare 2 c)
/-- Its eight semaphores at zero. -/
def zeros (c : Dev nD) : sProp 𝕄 :=
  iprop(semVal (barCell c) 0 ∗ (semVal (sendCell 0 c) 0 ∗ semVal (sendCell 1 c) 0 ∗ semVal (sendCell 2 c) 0)
    ∗ (semVal ((c : Thread nD τ), .dma (recvS 0)) 0 ∗ semVal (recvCell 0 c) 0 ∗ semVal (recvCell 1 c) 0 ∗ semVal (recvCell 2 c) 0))

def Φ₀ (c : Dev nD) : sProp 𝕄 := iprop(start m ρ c ∗ anyRows c)
def Φ₁ (c : Dev nD) : sProp 𝕄 := iprop(anyRows c ∗ zeros c)

/-- The launch's data: each window's contents, the exchange's state before and after the one step, what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

section Body

variable (K : Dev nD × Fin 8 → ℕ)

omit [FloatOps F] in
theorem hz : (![0, 0] : Fin 2 → Nat) = fun _ => 0 := funext fun a => by fin_cases a <;> rfl
/-- The block read whole; -/
theorem read_x (f : (cc0_stg0_0 : Ref sig .tc).ty.Contents (Elt F)) : xM.view.readAt (Elt F) r0.toLoadRect f = f :=
  Memref.readAt_unit_zero (Elt F) cc0_stg0_0 hz _ _
/-- the result written whole. -/
theorem write_out (f w : (cc0_stg1_0 : Ref sig .tc).ty.Contents (Elt F)) :
    ((oM : Memref sig .tc .vmem S256x256 .bf16).access r0 : View sig .tc _ _ _).write (Elt F) f w Finset.univ = w :=
  Memref.write_access_unit_zero_univ (Elt F) cc0_stg1_0 hz _ f w

/-- Buffer `b` of device `c`, held whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxHeartbeats 1600000 in
/-- The body's run, from the launch's state to the result. -/
theorem run_body (c : Dev nD) (g1 : (cc0_stg1_0 : Ref sig .tc).ty.Contents (Elt F)) {Kt : PUnit → sProp 𝕄} :
    iprop(ghost m ρ K c ∗ income c ∗ levAts L lv ∗ anyRows c ∗ ow c (O₀ c)
        ∗ (((c : Thread nD τ).loc cc0_stg0_0) ↦{fullShare} xstg m ρ c) ∗ (((c : Thread nD τ).loc cc0_stg1_0) ↦{fullShare} g1))
      ⊢ iprop(((anyRows c ∗ zeros c ∗ ow c 0 ∗ (((c : Thread nD τ).loc cc0_stg0_0) ↦{fullShare} xstg m ρ c)
            ∗ (((c : Thread nD τ).loc cc0_stg1_0) ↦{fullShare} outAt m ρ c)) -∗ Kt ⟨⟩)
          -∗ runs c (line1 >>= fun a => line2 a.1 a.2.1 >>= fun b => line3 a.2.1 a.2.2 b.1 b.2) Kt) := by
  unfold ghost positions payToks income anyRows runs
  rw [wp_bind]
  unfold line1
  rw [wp_deviceId]
  iintro ⟨⟨#HR, ⟨Hpb, ⟨Hps0, Hps1, Hps2⟩, Hpr, Hpr0, Hpr1, Hpr2⟩, ⟨Htb0, Htb1, Htb2⟩, ⟨Hts0, Hts1, Hts2⟩, Htr0, Htr1, Htr2⟩,
    ⟨Hcb, Hcr0, Hcr1, Hcr2⟩, #Hlev, ⟨⟨%f0, Hrow⟩, Hsp0, Hsp1, Hsp2⟩, HO, Hx, Hout⟩ Hk
  unfold O₀
  -- the signals
  iapply (wp_tell m ρ K 0 c (O₁ c) (cond1_iff c) _ (dev1_eq c)) $$ [HO Htb0 Hsp0]
  · isplitr; · iexact HR
    isplitl [HO]; · iexact HO
    isplitl [Htb0] <;> iassumption
  iintro ⟨HO, Hsp0⟩
  unfold O₁
  iapply (wp_tell m ρ K 1 c (O₂ c) (cond2_iff c) _ (dev2_eq c)) $$ [HO Htb1 Hsp1]
  · isplitr; · iexact HR
    isplitl [HO]; · iexact HO
    isplitl [Htb1] <;> iassumption
  iintro ⟨HO, Hsp1⟩
  unfold O₂
  iapply (wp_tell m ρ K 2 c (O₃ c) (cond3_iff c) _ (dev3_eq c)) $$ [HO Htb2 Hsp2]
  · isplitr; · iexact HR
    isplitl [HO]; · iexact HO
    isplitl [Htb2] <;> iassumption
  iintro ⟨HO, Hsp2⟩
  -- the block; the totals into row 0
  iapply (wp_load 𝒱₀ (c : Thread nD τ) none Set.univ (m := xM) (Finset.subset_univ _)) $$ Hx; iintro Hx
  rw [read_x]
  iapply (wp_load_row c 0 fullShare f0) $$ Hrow; iintro Hrow
  iapply (wp_store_row c f0 (k0_pay3 (xstg m ρ c))) $$ Hrow; iintro Hrow
  -- the barrier
  iapply (wp_bar m ρ K c) $$ [HO Hcb Hpb]
  · isplitr; · iexact HR
    isplitr; · iexact Hlev
    isplitl [HO]; · iexact HO
    isplitl [Hcb] <;> iassumption
  iintro ⟨HO, Hzb, Hbp0, Hbp1, Hbp2⟩
  -- row 0 in three shares; the copies
  ihave Hsh := (share3 c (rows (k0_pay3 (xstg m ρ c)))).1 $$ Hrow
  icases Hsh with ⟨Hs0, Hs1, Hs2⟩
  unfold O₃
  iapply (wp_copy m ρ K 1 c (O₄ c) (cond4_iff c) _ (dev4_eq c)) $$ [HO Hs1 Hbp1 Hts1 Htr1]
  · isplitr; · iexact HR
    isplitl [HO]; · iexact HO
    isplitl [Hs1]; · unfold sendPay totals; iexact Hs1
    isplitl [Hbp1]; · iexact Hbp1
    isplitl [Hts1] <;> iassumption
  iintro ⟨HO, Hcs1, Hs1⟩
  unfold runs; rw [wp_ret]; imodintro; try dsimp only
  rw [wp_bind]
  unfold line2 O₄
  iapply (wp_copy m ρ K 0 c (O₅ c) (cond5_iff c) _ (dev5_eq c)) $$ [HO Hs0 Hbp0 Hts0 Htr0]
  · isplitr; · iexact HR
    isplitl [HO]; · iexact HO
    isplitl [Hs0]; · unfold sendPay totals; iexact Hs0
    isplitl [Hbp0]; · iexact Hbp0
    isplitl [Hts0] <;> iassumption
  iintro ⟨HO, Hcs0, Hs0⟩
  unfold O₅
  iapply (wp_copy m ρ K 2 c 0 (cond6_iff c) _ (dev6_eq c)) $$ [HO Hs2 Hbp2 Hts2 Htr2]
  · isplitr; · iexact HR
    isplitl [HO]; · iexact HO
    isplitl [Hs2]; · unfold sendPay totals; iexact Hs2
    isplitl [Hbp2]; · iexact Hbp2
    isplitl [Hts2] <;> iassumption
  iintro ⟨HO, Hcs2, Hs2⟩
  -- what comes from below
  iapply (wp_recv m ρ K 0 c (waitLo_iff c 0)) $$ [HO Hcr0 Hsp0 Hpr0]
  · isplitr; · iexact HR
    isplitl [HO]; · iexact HO
    isplitl [Hcr0]; · iexact Hcr0
    isplitl [Hsp0] <;> iassumption
  iintro ⟨HO, Hzr0, ⟨%r1, %hr1, Hrow1⟩⟩
  iapply (wp_recv m ρ K 2 c (waitLo_iff c 2)) $$ [HO Hcr2 Hsp2 Hpr2]
  · isplitr; · iexact HR
    isplitl [HO]; · iexact HO
    isplitl [Hcr2]; · iexact Hcr2
    isplitl [Hsp2] <;> iassumption
  iintro ⟨HO, Hzr2, ⟨%r3, %hr3, Hrow3⟩⟩
  iapply (wp_recv m ρ K 1 c (waitLo_iff c 1)) $$ [HO Hcr1 Hsp1 Hpr1]
  · isplitr; · iexact HR
    isplitl [HO]; · iexact HO
    isplitl [Hcr1]; · iexact Hcr1
    isplitl [Hsp1] <;> iassumption
  iintro ⟨HO, Hzr1, ⟨%r2, %hr2, Hrow2⟩⟩
  -- the loads of the landed rows, the result
  rw [show Fin.succ (0 : Fin 3) = (1 : Fin 4) from rfl, show Fin.succ (1 : Fin 3) = (2 : Fin 4) from rfl, show Fin.succ (2 : Fin 3) = (3 : Fin 4) from rfl]
  iapply (wp_load_row c 1 fullShare r1) $$ Hrow1; iintro Hrow1
  iapply (wp_load_row c 2 fullShare r2) $$ Hrow2; iintro Hrow2
  unfold runs; rw [wp_ret]; imodintro; try dsimp only
  unfold line3
  iapply (wp_load_row c 3 fullShare r3) $$ Hrow3; iintro Hrow3
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, outAt_eq m ρ c _ _ _ (fun h => by rw [hr1 h]; exact loaded_eq 1 _) (fun h => by rw [hr2 h]; exact loaded_eq 2 _)
    (fun h => by rw [hr3 h]; exact loaded_eq 3 _)]
  -- the device's own copies read
  iapply (wp_sent m ρ K 0 c (waitHi_iff c 0)) $$ [HO Hcs0 Hs0 Hps0]
  · isplitr; · iexact HR
    isplitl [HO]; · iexact HO
    isplitl [Hcs0]; · iexact Hcs0
    isplitl [Hs0] <;> iassumption
  iintro ⟨HO, Hzs0, Hs0⟩
  iapply (wp_sent m ρ K 1 c (waitHi_iff c 1)) $$ [HO Hcs1 Hs1 Hps1]
  · isplitr; · iexact HR
    isplitl [HO]; · iexact HO
    isplitl [Hcs1]; · iexact Hcs1
    isplitl [Hs1] <;> iassumption
  iintro ⟨HO, Hzs1, Hs1⟩
  iapply (wp_sent m ρ K 2 c (waitHi_iff c 2)) $$ [HO Hcs2 Hs2 Hps2]
  · isplitr; · iexact HR
    isplitl [HO]; · iexact HO
    isplitl [Hcs2]; · iexact Hcs2
    isplitl [Hs2] <;> iassumption
  iintro ⟨HO, Hzs2, Hs2⟩
  -- the receive semaphore no copy uses
  imod (Rounds.cell_close ER (Rd m ρ) (Set.mem_univ (K (c, recvIx 0))) (fun h => h) (R := 0) (duties_none m ρ (duties_spare m ρ c))) $$ [Hpr] with Hzr
  · isplitr; · iapply (inv_recv m ρ K 0 c); iexact HR
    iexact Hpr
  rw [wp_ret]; imodintro
  iapply Hk
  isplitl [Hs0 Hs1 Hs2 Hrow1 Hrow2 Hrow3]
  · isplitl [Hs0 Hs1 Hs2]
    · iexists (totals m ρ c)
      iapply (share3 c (totals m ρ c)).2
      unfold sendPay
      isplitl [Hs0]; · iexact Hs0
      isplitl [Hs1] <;> iassumption
    unfold spare
    isplitl [Hrow1]; · iexists r1; iexact Hrow1
    isplitl [Hrow2]; · iexists r2; iexact Hrow2
    iexists r3; iexact Hrow3
  isplitl [Hzb Hzs0 Hzs1 Hzs2 Hzr Hzr0 Hzr1 Hzr2]
  · unfold zeros
    isplitl [Hzb]; · iexact Hzb
    isplitl [Hzs0 Hzs1 Hzs2]
    · isplitl [Hzs0]; · iexact Hzs0
      isplitl [Hzs1] <;> iassumption
    isplitl [Hzr]; · iexact Hzr
    isplitl [Hzr0]; · iexact Hzr0
    isplitl [Hzr1] <;> iassumption
  isplitl [HO]; · iexact HO
  isplitl [Hx] <;> iassumption

end Body

end Cert.KernelIdealProof

end
-- ==== Proof.KernelIdealLaunch.lean ====
/-
# The launch

The exchange set up for the four devices at once, and the whole program's run: from any memory with every counter zero it
terminates, each device's result array holds what its body computes, its input is unchanged and every counter is zero again.
-/
module

public import proofs.«01_k».proof.Proof.KernelIdealBody
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

omit [FloatOps F] in
/-- A whole buffer held at given contents, spelled out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [Memref.view_whole, View.read_whole, View.set_whole]

/-- What the body is given at the one step: the exchange's state, what is owed, the block fetched, the result's buffer. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
/-- What it leaves. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))

/-- The body's run between the two. -/
theorem body_runs (c : Dev nD) :
    bodyPre m ρ c ⊢ runs c (cc0_body (F := F) xM (Memref.isWhole_whole _) oM (Memref.isWhole_whole _) gM (Memref.isWhole_whole _) cc0_scratch1 cc0_scratch2)
      (fun _ => bodyPost m ρ c) := by
  rw [body_line]
  unfold bodyPre Φ₀ start Dat.owesAt Pipeline.owesWithin
  iintro ⟨⟨⟨⟨%K, Hg⟩, Hin, Hlev⟩, Hrow⟩, ⟨%W, %hW, HO⟩, ⟨%d0, %g0, %hg0, Hx⟩, ⟨%d1, %g1, %hg1, Hout⟩⟩
  have hx : g0 = xstg m ρ c := by
    rw [hg0]; unfold Dat.before; rw [if_pos (fetch0_0 t0_0)]; rfl
  subst hx
  rw [show (dats m ρ 0 c).owed t0_0.castSucc = O₀ c from rfl]
  iapply (run_body m ρ K c g1) $$ [Hg Hin Hlev Hrow HO Hx Hout]
  · isplitl [Hg]; · iexact Hg
    isplitl [Hin]; · iexact Hin
    isplitl [Hlev]; · iexact Hlev
    isplitl [Hrow]; · iexact Hrow
    isplitl [HO]; · unfold ow; iexists W; iexact HO
    isplitl [Hx] <;> iassumption
  iintro ⟨Hrow, Hz, HO, Hx, Hout⟩
  unfold bodyPost Φ₁ Dat.owesAt Pipeline.owesWithin ow
  icases HO with ⟨%W', HO⟩
  rw [show (dats m ρ 0 c).owed t0_0.succ = 0 from rfl]
  isplitl [Hrow Hz]; · isplitl [Hrow] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats (F := F) m ρ 0 c) (defs₀ (F := F)) 𝒱₀ () Set.univ := fun t => by
  rw [fin_N0 t, bigSep_W0, bigSep_W0]
  simp only [owns_whole_eq]
  exact body_runs m ρ c

/-! ## The cells and the duties, minted -/

set_option backward.proofsInPublic true in
/-- The kernel's own semaphores: the sends', the receives'. -/
abbrev osem : Fin 7 → SemLoc sig := fun k => .dma ⟨k.val + 2, show k.val + 2 < 9 by omega⟩

theorem osem_facts : Pipeline.OwnSemFacts cfg0.spec osem := by decide

theorem csem_injective : Function.Injective csem := by decide
theorem kcell_injective : Function.Injective (kcell : Dev nD × Fin 8 → GSem nD τ sig) := fun a b h =>
  Prod.ext (congrArg (fun g : GSem nD τ sig => g.1.1) h) (csem_injective (congrArg Prod.snd h))

/-- The duties of device `c`: by kind — its barrier's, its sends', its receives' — and by distance. -/
abbrev dutyAt (x : Dev nD × Fin 3 × Fin 3) : GSem nD τ sig × ℕ × Fin 3 := match x.2.1 with
  | 0 => (barCell x.1, 0, x.2.2)
  | 1 => (sendCell x.2.2 x.1, 0, 0)
  | 2 => (recvCell x.2.2 x.1, 0, 0)

theorem dutyAt_injective : Function.Injective dutyAt := by
  rintro ⟨c, i, e⟩ ⟨c', i', e'⟩ h
  have hc : c = c' := by
    have := congrArg (fun x : GSem nD τ sig × ℕ × Fin 3 => x.1.1.1) h
    fin_cases i <;> fin_cases i' <;> exact this
  subst hc
  have hr := congrArg (fun x : GSem nD τ sig × ℕ × Fin 3 => role x.1.2) h
  have hd := congrArg (fun x : GSem nD τ sig × ℕ × Fin 3 => x.2.2) h
  fin_cases i <;> fin_cases i' <;> simp only [dutyAt, role_bar, role_send, role_recv] at hr hd <;>
    first | cases hr | skip
  · exact congrArg (fun d => (c, (0 : Fin 3), d)) hd
  · rfl
  · rfl

def allCells : Finset (GSem nD τ sig) := Finset.univ.map ⟨kcell, kcell_injective⟩
def allDuties : Finset (GSem nD τ sig × ℕ × Fin 3) := Finset.univ.map ⟨dutyAt, dutyAt_injective⟩

/-- The launch's state: the pipeline's cells and the exchange's. -/
def u₀ : UU := (initOf (Pipeline.cells cfgs cellOf_inj) (Pipeline.launchToks cfgs cellOf_inj), initOf allCells allDuties)

/-- The duties of device `c`'s own semaphores. -/
def toks (c : Dev nD) : sProp 𝕄 :=
  iprop((dutyTok ER (barCell c) 0 0 ∗ dutyTok ER (barCell c) 0 1 ∗ dutyTok ER (barCell c) 0 2)
    ∗ (dutyTok ER (sendCell 0 c) 0 0 ∗ dutyTok ER (sendCell 1 c) 0 0 ∗ dutyTok ER (sendCell 2 c) 0 0)
    ∗ (dutyTok ER (recvCell 0 c) 0 0 ∗ dutyTok ER (recvCell 1 c) 0 0 ∗ dutyTok ER (recvCell 2 c) 0 0))

/-- What the launch's state deals device `c`; -/
def G (c : Dev nD) : sProp 𝕄 :=
  iprop((bigSep Finset.univ fun k : Fin 8 => roundState ER (Rd m ρ) (kcell (c, k)) 0)
    ∗ (bigSep Finset.univ fun k : Fin 8 => iprop(atPos ER (kcell (c, k)) 0 ∅ 0 ∗ reached ER (kcell (c, k)) 0)) ∗ toks c)
/-- what the devices make of it together. -/
def G' (c : Dev nD) : sProp 𝕄 := iprop(∃ K, ghost m ρ K c)

omit [FloatOps F] in
theorem bigSep_cells (Φ : GSem nD τ sig → sProp 𝕄) :
    bigSep allCells Φ = bigSep Finset.univ fun c : Dev nD => bigSep Finset.univ fun k : Fin 8 => Φ (kcell (c, k)) := by
  unfold allCells; rw [bigSep_map, bigSep_univ_prod]; rfl
omit [FloatOps F] in
theorem bigSep_duties : bigSep allDuties (fun x => (dutyTok ER x.1 x.2.1 x.2.2 : sProp 𝕄)) = bigSep Finset.univ fun c : Dev nD => toks c := by
  unfold allDuties; rw [bigSep_map, bigSep_univ_prod]
  exact bigSep_congr fun c _ => by unfold toks; rw [bigSep_univ_prod, bigSep_fin3, bigSep_fin3, bigSep_fin3, bigSep_fin3]; rfl

theorem fund : BI.own (ER (initOf allCells allDuties)) ⊢ (|==> bigSep Finset.univ (G m ρ) : sProp 𝕄) := by
  iintro HX
  imod (Rounds.fund ER (Rd m ρ) allCells allDuties) $$ HX with ⟨Hst, Hr, Hat, Htok⟩
  imodintro
  ihave Hst' := (Entails.of_eq (bigSep_cells fun g => roundState ER (Rd m ρ) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq bigSep_duties) $$ Htok
  unfold G; simp only [bigSep_sep']
  isplitl [Hst']; · iexact Hst'
  isplitl [Hat' Hr']; · isplitl [Hat'] <;> iassumption
  iexact Htok'

/-! ## The semaphores, at zero -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
      ∗ semVal ((c : Thread nD τ), .dma (recvS 0)) 0 ∗ semVal (recvCell 0 c) 0 ∗ semVal (recvCell 1 c) 0 ∗ semVal (recvCell 2 c) 0) := by
  rw [Pipeline.ownSems0_eq_of_list c osem [0, 1, 2, 3, 4, 5, 6] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem cells0 (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  exact sep_comm.1

/-- One device's cells opened for their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  have h : iprop((bigSep Finset.univ fun k : Fin 8 => semVal (kcell (c, k)) 0) ∗ bigSep Finset.univ fun k : Fin 8 => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := (cells0 (F := F) c) $$ [Hos Hus]
  · isplitl [Hos] <;> iassumption
  imod h $$ [Hv Hst] with Hinv
  · isplitl [Hv] <;> iassumption
  imodintro
  isplitl [Hinv]; · iexact Hinv
  isplitl [Hat] <;> iassumption

/-! ## The duties dealt to the devices that perform them -/

omit [FloatOps F] in
/-- A barrier's duties go to the devices above, a receive's to the device below, a send's stays. -/
theorem toks_dealt : (bigSep Finset.univ fun c : Dev nD => (toks c : sProp 𝕄)) = bigSep Finset.univ fun c : Dev nD => payToks c := by
  have hb (e : Fin 3) : (bigSep Finset.univ fun c : Dev nD => (dutyTok ER (barCell c) 0 e : sProp 𝕄)) = bigSep Finset.univ fun c : Dev nD => dutyTok ER (barCell (dn e c)) 0 e :=
    bigSep_univ_equiv (ring e).symm fun c : Dev nD => (dutyTok ER (barCell c) 0 e : sProp 𝕄)
  have hr (e : Fin 3) : (bigSep Finset.univ fun c : Dev nD => (dutyTok ER (recvCell e c) 0 0 : sProp 𝕄)) = bigSep Finset.univ fun c : Dev nD => dutyTok ER (recvCell e (up e c)) 0 0 :=
    bigSep_univ_equiv (ring e) fun c : Dev nD => (dutyTok ER (recvCell e c) 0 0 : sProp 𝕄)
  unfold toks payToks
  simp only [bigSep_sep']
  rw [hb, hb, hb, hr, hr, hr]

omit [FloatOps F] in
theorem positions_eq (c : Dev nD) : (bigSep Finset.univ fun k : Fin 8 => (atPos ER (kcell (c, k)) 0 ∅ 0 : sProp 𝕄)) ⊢ positions c := by
  rw [bigSep_fin8]
  unfold positions
  iintro ⟨Hb, Hs0, Hs1, Hs2, Hr, Hr0, Hr1, Hr2⟩
  isplitl [Hb]; · iexact Hb
  isplitl [Hs0 Hs1 Hs2]
  · isplitl [Hs0]; · iexact Hs0
    isplitl [Hs1]; · iexact Hs1
    iexact Hs2
  isplitl [Hr]; · iexact Hr
  isplitl [Hr0]; · iexact Hr0
  isplitl [Hr1]; · iexact Hr1
  iexact Hr2

omit [FloatOps F] in
/-- What can be copied reaches every member. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 8 → ℕ) (c : Dev nD) :
    iprop(records m ρ K ∗ (bigSep Finset.univ fun k : Fin 8 => atPos ER (kcell (c, k)) 0 ∅ 0) ∗ payToks c) ⊢ G' m ρ c := by
  unfold G' ghost
  iintro ⟨HR, Hat, Ht⟩
  iexists K
  isplitl [HR]; · iexact HR
  isplitl [Hat]; · iapply (positions_eq (F := F) c); iexact Hat
  iexact Ht

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', toks_dealt, ← bigSep_univ_prod (fun ck : Dev nD × Fin 8 => iprop(∃ κ : ℕ, cellInv ER (Rd m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (Rd m ρ) κ (kcell ck) : sProp 𝕄))) $$ HI
  icases HK with ⟨%K, #HI⟩
  iapply (bigSep_share (R := records m ρ K) fun c _ => ghost_intro m ρ K c)
  isplitr
  · unfold records; isplitl; · iexact HI
    iexact HR
  · rw [bigSep_sep']
    isplitl [Hat] <;> iassumption

/-- The semaphores of all the devices, opened at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What each device will be paid -/

omit [FloatOps F] in
theorem due_apply (p : Prop) [Decidable p] (g g' : GSem nD τ sig) (n : ℕ) : due p g n g' () = if p ∧ g' = g then n else 0 := by
  unfold due
  by_cases hp : p
  · rw [if_pos hp, tallyAt_apply]; simp only [hp, and_true, true_and]
  · rw [if_neg hp, if_neg (fun h => hp h.1)]; rfl

omit [FloatOps F] in
theorem O₀_apply (d : Dev nD) (g : GSem nD τ sig) :
    O₀ d g () = (∑ e : Fin 3, dueRecv e d g ()) + ∑ e : Fin 3, dueBar e d g () := by
  unfold O₀ O₁ O₂ O₃ O₄ O₅
  simp only [Pi.add_apply, Finsupp.add_apply, zero_add, Fin.sum_univ_three]
  omega

omit [FloatOps F] in
theorem owed_bar (d c : Dev nD) : O₀ d (barCell c) () = ∑ e : Fin 3, if Lo e d ∧ c = dn e d then 1 else 0 := by
  rw [O₀_apply, Finset.sum_eq_zero fun e _ => ?_, zero_add]
  · refine Finset.sum_congr rfl fun e _ => ?_
    unfold dueBar
    rw [due_apply]
    exact if_congr (and_congr_right fun _ => ⟨fun h => congrArg (fun g : GSem nD τ sig => g.1.1) h, fun h => h ▸ rfl⟩) rfl rfl
  · unfold dueRecv
    rw [due_apply, if_neg fun h => ?_]
    have := congrArg (fun g : GSem nD τ sig => g.2) h.2
    cases this

omit [FloatOps F] in
theorem owed_recv (e : Fin 3) (d c : Dev nD) : O₀ d (recvCell e c) () = if Lo e c ∧ d = dn e c then N else 0 := by
  rw [O₀_apply, Finset.sum_eq_zero (s := Finset.univ) (f := fun e' => dueBar e' d (recvCell e c) ()) fun e' _ => ?_, add_zero,
    Finset.sum_eq_single e (fun e' _ hne => ?_) (fun h => absurd (Finset.mem_univ _) h)]
  · unfold dueRecv
    rw [due_apply]
    refine if_congr ⟨fun ⟨h, h'⟩ => ?_, fun ⟨h, h'⟩ => ?_⟩ rfl rfl
    · have hc : c = up e d := congrArg (fun g : GSem nD τ sig => g.1.1) h'
      subst hc; exact ⟨(lo_up e d).mpr h, (dn_up e d).symm⟩
    · subst h'; exact ⟨(hi_dn e c).mpr h, by rw [up_dn]⟩
  · unfold dueRecv
    rw [due_apply, if_neg fun h => hne ?_]
    have := congrArg (fun g : GSem nD τ sig => role g.2) h.2
    simp only [role_recv] at this
    cases this; rfl
  · unfold dueBar
    rw [due_apply, if_neg fun h => ?_]
    have := congrArg (fun g : GSem nD τ sig => g.2) h.2
    cases this

theorem signals_to : ∀ c : Dev nD, (∑ d : Dev nD, ∑ e : Fin 3, if Lo e d ∧ c = dn e d then 1 else 0) = 3 - c.val := by decide

omit [FloatOps F] in
theorem launch_bar (c : Dev nD) :
    tallyOn (barCell c) (launchCredit (Pipeline.owing O₀) 0 (barCell c)) = (tallyAt (barCell c) () (3 - c.val) : CellTallies nD τ sig Unit) := by
  unfold tallyAt; refine congrArg _ (Finsupp.ext fun u => ?_); cases u
  rw [Pipeline.launchCredit_owing, Finsupp.single_eq_same, Finset.sum_congr rfl fun d _ => owed_bar d c, signals_to]

omit [FloatOps F] in
theorem launch_recv (e : Fin 3) (c : Dev nD) (h : Lo e c) :
    tallyOn (recvCell e c) (launchCredit (Pipeline.owing O₀) 0 (recvCell e c)) = (tallyAt (recvCell e c) () N : CellTallies nD τ sig Unit) := by
  unfold tallyAt; refine congrArg _ (Finsupp.ext fun u => ?_); cases u
  rw [Pipeline.launchCredit_owing, Finsupp.single_eq_same, Finset.sum_congr rfl fun d _ => owed_recv e d c,
    Finset.sum_eq_single (dn e c) (fun d _ hd => if_neg fun h' => hd h'.2) (fun h' => absurd (Finset.mem_univ _) h'), if_pos ⟨h, rfl⟩]

omit [FloatOps F] in
theorem cred_recv (e : Fin 3) (c : Dev nD) :
    (cred (tallyOn (recvCell e c) (launchCredit (Pipeline.owing O₀) 0 (recvCell e c))) : sProp 𝕄) ⊢ When (Lo e c) (cred (tallyAt (recvCell e c) () N)) := by
  by_cases h : Lo e c
  · rw [when_pos h, launch_recv e c h]
  · rw [when_neg h]; iintro -; iempintro

omit [FloatOps F] in
theorem creds (c : Dev nD) : (Pipeline.launchCred O₀ c : sProp 𝕄) ⊢ income c := by
  unfold Pipeline.launchCred income
  refine BIBase.Entails.trans (bigSep_subset (Finset.subset_univ [SemLoc.reg barS, .dma (recvS (0 : Fin 3).succ), .dma (recvS (1 : Fin 3).succ), .dma (recvS (2 : Fin 3).succ)].toFinset)) ?_
  rw [bigSep_eq_bigSepL_of_eq _ rfl (by decide)]
  refine (show _ ⊢ iprop(cred (tallyOn (barCell c) (launchCredit (Pipeline.owing O₀) 0 (barCell c)))
    ∗ cred (tallyOn (recvCell 0 c) (launchCredit (Pipeline.owing O₀) 0 (recvCell 0 c)))
    ∗ cred (tallyOn (recvCell 1 c) (launchCredit (Pipeline.owing O₀) 0 (recvCell 1 c)))
    ∗ cred (tallyOn (recvCell 2 c) (launchCredit (Pipeline.owing O₀) 0 (recvCell 2 c)))) from BI.Entails.refl _).trans ?_
  rw [launch_bar]
  exact sep_mono_right ((sep_mono_left (cred_recv 0 c)).trans (sep_mono_right ((sep_mono_left (cred_recv 1 c)).trans (sep_mono_right (cred_recv 2 c)))))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ anyRows spare
  iintro ⟨Hs, -, ⟨%f, Hr⟩⟩
  isplitl [Hs]; · iexact Hs
  ihave H := (Entails.of_eq (slots_split c f)) $$ Hr
  icases H with ⟨H0, H1, H2, H3⟩
  isplitl [H0]; · iexists f; iexact H0
  isplitl [H1]; · iexists f; iexact H1
  isplitl [H2]; · iexists f; iexact H2
  iexists f; iexact H3

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros anyRows spare
  iintro ⟨Hr, Hzb, ⟨Hs0, Hs1, Hs2⟩, Hz, Hz0, Hz1, Hz2⟩
  isplitl [Hzb]; · iexact Hzb
  isplitr [Hr]
  · isplitl [Hs0]; · iexact Hs0
    isplitl [Hs1]; · iexact Hs1
    isplitl [Hs2]; · iexact Hs2
    isplitl [Hz]; · iexact Hz
    isplitl [Hz0]; · iexact Hz0
    isplitl [Hz1] <;> iassumption
  iapply (slots_join c (totals m ρ c))
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- Each array of device `c` after the run. -/
def finalA (c : Dev nD) (w : Fin cfg0.W) : Buf (Elt F) ((cfg0.win w).arr.view.loc (c : Thread nD τ)) := (dats m ρ 0 c).arrAt w cfg0.N

set_option maxRecDepth 8000 in
/-- From any memory with every counter zero the program terminates, whatever the floating-point operations are; then every
    array of every device holds its computed contents and every counter is zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input is what it was; -/
theorem finalA_x (c : Dev nD) : finalA m ρ c (0 : Fin 2) = m ((c : Thread nD τ).loc main_arg0) :=
  (dats (F := F) m ρ 0 c).arrAt_in (0 : Fin 2) rfl _

end Cert.KernelIdealProof

end
-- ==== Proof.ReferenceRun.lean ====
/-
# The reference's run

The reference is a scan over the rows of the whole array: a counted loop of 1024 trips, each of which multiplies the running
product by the next row and stores the product as the next row of the result. Here the loop is run: what each of its carried
buffers holds before every trip, and so what the result holds at the end.
-/
module

public import proofs.«01_k».proof.ReferenceIdeal
public import proofs.«01_k».proof.Proof.Gen.ReferenceIdeal
public import Idealize.ShloMosaic.Lib.StableHlo.RunLoop
public import Idealize.ShloMosaic.Lib.StableHlo.RunClose
public import Idealize.ShloMosaic.Lib.Scf.Counter
public import Idealize.ShloMosaic.Lib.Scf.ExitTest
public import Idealize.ShloMosaic.Lib.Claim

@[expose] public section

noncomputable section

namespace Cert.ReferenceProof

open Cert.ReferenceIdeal Cert.ReferenceIdeal.Facts₀ Cert.ReferenceIdeal.Facts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-! ## The operations, in lists -/

/-- What @main does before the loop: the constants, and the loop's four carried values. -/
abbrev preOps : List (HloOp τ sig (Elt F)) :=
  [ nullary main_cst (constant S_ .bf16 0x3F80#16),
    unary main_cst main_v0 (broadcastInDim S256 ![] bcast_S_S256),
    nullary main_cst_0 (constant S_ .bf16 0x0000#16),
    unary main_cst_0 main_v1 (broadcastInDim S1024x256 ![] bcast_S_S1024x256),
    nullary main_c (constantI S_ 32 0#32),
    unary main_arg0 main_v2_0 id,
    unary main_c main_v2_1 id,
    unary main_v0 main_v2_2 id,
    unary main_v1 main_v2_3 id ]

/-- The loop's condition: is the counter below 1024? -/
abbrev condOps : List (HloOp τ sig (Elt F)) :=
  [ nullary main_while0c_c_4 (constantI S_ 32 1024#32),
    binary main_v2_1 main_while0c_c_4 main_while0c_v3 (cmpi .slt) ]

/-- One trip: take the row, multiply it into the product, store the product as a row of the result, count. -/
abbrev bodyOps : List (HloOp τ sig (Elt F)) :=
  [ TRef.nullary main_while0b_call0.c (constantI S_ 32 0#32),
    TRef.unaryIndexed (.of main_v2_0 : TRef sig ⟨S1024x256, .bf16⟩) ![(.of main_v2_1 : TRef sig ⟨S_, .i32⟩), main_while0b_call0.c] main_while0b_call0.v0
      (fun x i => Host.dynamicSlice S1x256 x (fun k => (i k (Shape.Idx.first h_S_)).toInt) sliceFits_S1024x256_S1x256),
    TRef.reshape main_while0b_call0.v0 main_while0b_call0.v1 rfl shapeCasts_S1x256_S256,
    binary main_v2_2 main_while0b_v3 main_while0b_v4 mulf,
    TRef.unary (.of main_while0b_v4 : TRef sig ⟨S256, .bf16⟩) main_while0b_call1.v0 (broadcastInDim S1x256 ![1] bcast_S256_S1x256_1),
    TRef.nullary main_while0b_call1.c (constantI S_ 32 0#32),
    TRef.binaryIndexed (.of main_v2_3 : TRef sig ⟨S1024x256, .bf16⟩) main_while0b_call1.v0 ![(.of main_v2_1 : TRef sig ⟨S_, .i32⟩), main_while0b_call1.c] main_while0b_call1.v1
      (fun x u i => Host.dynamicUpdateSlice x u (fun k => (i k (Shape.Idx.first h_S_)).toInt) updateFits_S1024x256_S1x256),
    nullary main_while0b_c_4 (constantI S_ 32 1#32),
    binary main_v2_1 main_while0b_c_4 main_while0b_v6 addi,
    unary main_while0b_v6 main_v2_1 id,
    unary main_while0b_v4 main_v2_2 id,
    unary main_while0b_v5 main_v2_3 id ]

/-- The body is its list of operations. -/
theorem body_chain : main_while0_body (F := F) = Pipeline.chain ([bodyOps].map fun ops => (seq ops : Prog _ PUnit)) := rfl

/-- @main is its list of operations, then the loop. -/
theorem main_chain (c : Dev nD) : main (F := F) c
    = Pipeline.chain (([preOps].map fun ops => (seq ops : Prog _ PUnit)) ++ HostLoop.enter 0 :: ([] : List _).map fun ops => (seq ops : Prog _ PUnit)) := rfl

/-- Each operation before the loop touches only the core's own buffers; -/
theorem preOps_sub : (preOps (F := F)).Forall fun op => op.bufs ⊆ tcRefs τ sig :=
  ⟨nullary_bufs_sub .., unary_bufs_sub .., nullary_bufs_sub .., unary_bufs_sub .., nullary_bufs_sub .., unary_bufs_sub ..,
    unary_bufs_sub .., unary_bufs_sub .., unary_bufs_sub ..⟩

/-- and so does each of the body's. -/
theorem bodyOps_sub : (bodyOps (F := F)).Forall fun op => op.bufs ⊆ tcRefs τ sig :=
  ⟨nullary_bufs_sub .., unaryIndexed_bufs_sub .., reshape_bufs_sub .., binary_bufs_sub .., unary_bufs_sub .., nullary_bufs_sub ..,
    binaryIndexed_bufs_sub .., nullary_bufs_sub .., binary_bufs_sub .., unary_bufs_sub .., unary_bufs_sub .., unary_bufs_sub ..⟩

/-! ## What the lists leave in the carried buffers -/

variable (W : Valuation τ sig (Elt F))

/-- Row `k` (a word) of the whole array. -/
def rowAt (x : (⟨S1024x256, .bf16⟩ : BufTy).Contents (Elt F)) (k : (⟨S_, .i32⟩ : BufTy).Contents (Elt F)) :
    (⟨S256, .bf16⟩ : BufTy).Contents (Elt F) :=
  shapeCast S256 (Host.dynamicSlice S1x256 x (fun a => ((![k, constantI S_ 32 0#32] : Fin 2 → (⟨S_, .i32⟩ : BufTy).Contents (Elt F)) a
    (Shape.Idx.first h_S_)).toInt) sliceFits_S1024x256_S1x256) shapeCasts_S1x256_S256

/-- The array with its row `k` (a word) replaced. -/
def setRow (y : (⟨S1024x256, .bf16⟩ : BufTy).Contents (Elt F)) (p : (⟨S256, .bf16⟩ : BufTy).Contents (Elt F))
    (k : (⟨S_, .i32⟩ : BufTy).Contents (Elt F)) : (⟨S1024x256, .bf16⟩ : BufTy).Contents (Elt F) :=
  Host.dynamicUpdateSlice y (broadcastInDim S1x256 ![1] bcast_S256_S1x256_1 p)
    (fun a => ((![k, constantI S_ 32 0#32] : Fin 2 → (⟨S_, .i32⟩ : BufTy).Contents (Elt F)) a (Shape.Idx.first h_S_)).toInt)
    updateFits_S1024x256_S1x256

/-- The condition changes none of the carried buffers. -/
theorem cond_keeps {b : Ref sig .tc} (h₁ : b ≠ main_while0c_c_4) (h₂ : b ≠ main_while0c_v3) :
    after (condOps (F := F)) W b = W b := by
  simp only [after_cons, after_nil]
  rw [binary_result_ne _ _ _ _ _ _ _ _ h₂, nullary_result_ne _ _ _ _ h₁]

theorem body_arg : after (bodyOps (F := F)) W main_arg0 = W main_arg0 := by after_results_simp
/-- A trip leaves the input copy alone, -/
theorem body_x : after (bodyOps (F := F)) W main_v2_0 = W main_v2_0 := by after_results_simp
/-- counts one up, -/
theorem body_k : after (bodyOps (F := F)) W main_v2_1 = addi (W main_v2_1 : (⟨S_, .i32⟩ : BufTy).Contents (Elt F)) (constantI S_ 32 1#32) := by
  after_results_simp
  rfl
/-- multiplies the row into the product, -/
theorem body_p : after (bodyOps (F := F)) W main_v2_2 = mulf (W main_v2_2 : (⟨S256, .bf16⟩ : BufTy).Contents (Elt F)) (rowAt (W main_v2_0) (W main_v2_1)) := by
  after_results_simp_entrywise
  simp only [TRef.ofBuf, TRef.toBuf, cast_eq, id]
  rfl
/-- and stores that product as the row of the result. -/
theorem body_y : after (bodyOps (F := F)) W main_v2_3
    = setRow (W main_v2_3) (mulf (W main_v2_2 : (⟨S256, .bf16⟩ : BufTy).Contents (Elt F)) (rowAt (W main_v2_0) (W main_v2_1))) (W main_v2_1) := by
  after_results_simp_entrywise
  simp only [TRef.ofBuf, TRef.toBuf, cast_eq, id]
  rfl

/-! ## Trip by trip -/

/-- The counter's value at trip `k`, as an array of one word. -/
def cnt (k : ℕ) : (⟨S_, .i32⟩ : BufTy).Contents (Elt F) := fun _ => (Scf.iv 0#32 1#32 k : BitVec 32)

/-- The product carried into trip `k`: ones, then one more row each trip. -/
def prodAt (x : (⟨S1024x256, .bf16⟩ : BufTy).Contents (Elt F)) : ℕ → (⟨S256, .bf16⟩ : BufTy).Contents (Elt F)
  | 0 => broadcastInDim S256 ![] bcast_S_S256 (constant S_ .bf16 0x3F80#16)
  | k + 1 => mulf (prodAt x k) (rowAt x (cnt k))

/-- The result carried into trip `k`: zeros, then one more row set each trip. -/
def scanAt (x : (⟨S1024x256, .bf16⟩ : BufTy).Contents (Elt F)) : ℕ → (⟨S1024x256, .bf16⟩ : BufTy).Contents (Elt F)
  | 0 => broadcastInDim S1024x256 ![] bcast_S_S1024x256 (constant S_ .bf16 0x0000#16)
  | k + 1 => setRow (scanAt x k) (prodAt x (k + 1)) (cnt k)

variable (m : (ℓ : Loc nD τ sig) → Buf (Elt F) ℓ) (ρ : Dev nD → PrngReg)

/-- The whole input, as launched. -/
def input (c : Dev nD) : (⟨S1024x256, .bf16⟩ : BufTy).Contents (Elt F) := launchContents m c main_arg0

/-- Every buffer before trip `k`. -/
abbrev trip (k : ℕ) (c : Dev nD) : Valuation τ sig (Elt F) := atTrip condOps [bodyOps] (entryContents [preOps] m) k c

/-- Before every trip the five buffers of interest hold: the argument, its copy, the counter, the running product and the rows so far. -/
theorem trip_holds (c : Dev nD) : ∀ k,
    trip m k c main_arg0 = input m c ∧ trip m k c main_v2_0 = input m c ∧ trip m k c main_v2_1 = cnt (F := F) k
      ∧ trip m k c main_v2_2 = prodAt (input m c) k ∧ trip m k c main_v2_3 = scanAt (input m c) k
  | 0 => by
    unfold trip
    rw [atTrip_zero]
    dsimp only [entryContents, afterL_cons, afterL_nil]
    refine ⟨?_, ?_, ?_, ?_, ?_⟩
    · after_results; rfl
    · after_results; rfl
    · after_results; funext i; exact (Scf.iv_zero _ _).symm
    · after_results; rfl
    · after_results; rfl
  | k + 1 => by
    obtain ⟨ha, hx, hk, hp, hy⟩ := trip_holds c k
    unfold trip at ha hx hk hp hy ⊢
    rw [atTrip_succ]
    dsimp only [afterL_cons, afterL_nil]
    rw [body_arg, body_x, body_k, body_p, body_y]
    rw [cond_keeps _ (by decide) (by decide), cond_keeps _ (by decide) (by decide), cond_keeps _ (by decide) (by decide),
      cond_keeps _ (by decide) (by decide), cond_keeps _ (by decide) (by decide), ha, hx, hk, hp, hy]
    refine ⟨rfl, rfl, ?_, rfl, rfl⟩
    funext i
    exact (Scf.iv_succ (0#32) (1#32) k).symm

/-! ## The run -/

/-- A host operation's buffers are among the unscoped ones. -/
theorem sub_unscoped (op : HloOp τ sig (Elt F)) (h : op.bufs ⊆ tcRefs τ sig) : op.bufs ⊆ Pipeline.ucRefs τ sig :=
  Pipeline.sub_ucRefs op h

/-- The loop has 1024 trips. -/
theorem trips_eq : Scf.trips (0#32) (1024#32) (1#32) = 1024 := by decide

local notation "𝕄" => MT nD τ sig Unit (Elt F) ℕ (Option PUnit) ℕ

set_option backward.isDefEq.respectTransparency.types false in
/-- The loop's condition answers 1 exactly while fewer than 1024 trips have run. -/
theorem cond_spec : CondSpec (pcfgs (F := F)) defs₀ loops main_while0_cond condOps [bodyOps] (entryContents [preOps] m) 1024 := by
  intro k hk c bd
  have hctr : atTrip condOps [bodyOps] (entryContents [preOps] m) k c main_v2_1 = cnt (F := F) k := (trip_holds m c k).2.2.1
  unfold main_while0_cond
  rw [wp_bind]
  iintro ⟨Hb, Hh⟩
  iapply (wp_hlo_within (Variants.lift Variants.none) (c : Thread nD τ) bd Set.univ (sub_unscoped _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_unscoped _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps [bodyOps] (entryContents [preOps] m) k c) main_v2_1 HostLoop.idx0)
        (HloOp.result _ (atTrip condOps [bodyOps] (entryContents [preOps] m) k c) main_while0c_c_4 HostLoop.idx0) = 1#1) (k < 1024)
    rw [nullary_result_ne _ _ _ _ (by decide), nullary_result, hctr]
    have h := Scf.cmpi_slt_iv_ub_iff (lb := 0#32) (ub := 1024#32) (st := 1#32) main_while0_ok (k := k) (by rw [trips_eq]; exact hk)
    rw [trips_eq] at h
    exact h
  isplitl [Hb]; · iexact Hb
  rw [after_cons, after_cons, after_nil]; iexact Hh

/-- The reference has no semaphore. -/
theorem no_sem {α : Type} (s t : GSem nD τ sig → α) : s = t := by
  funext g
  rcases g with ⟨c, l⟩
  cases l with
  | reg i => exact (show Fin 0 from i).elim0
  | dma i => exact (show Fin 0 from i).elim0

/-- The reference's run: it terminates with its argument unchanged, every counter at zero, and its result at what 1024 trips leave. -/
theorem run_main [∀ e, Nonempty (Elt F e)] : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_v2_3) = scanAt (input m c) 1024) ∧ r.2.sem = fun _ => 0) := by
  have h := run_loop (pcfgs (F := F)) defs₀ loops main 0 main_while0_cond main_while0_body rfl [preOps] [bodyOps] [] condOps
    (.cons preOps_sub .nil) (.cons bodyOps_sub .nil) .nil main_chain body_chain 1024 m ρ (cond_spec m)
  refine θ_run_mono h ?_
  intro r hr
  refine ⟨fun c => ⟨?_, ?_⟩, no_sem _ _⟩
  · rw [hr c main_arg0 rfl]
    dsimp only [finalContents, afterL_nil]
    rw [cond_keeps _ (by decide) (by decide)]
    exact (trip_holds m c 1024).1
  · rw [hr c main_v2_3 rfl]
    dsimp only [finalContents, afterL_nil]
    rw [cond_keeps _ (by decide) (by decide)]
    exact (trip_holds m c 1024).2.2.2.2

end Cert.ReferenceProof

end
-- ==== Proof.Products.lean ====
/-
# Products of nonnegative extended reals, through logarithms

The kernel multiplies by adding logarithms under a mask. Over the extended reals the exponential turns every sum into the
product (at the infinities too), and undoes the logarithm of a nonnegative number; so an exponential of a masked sum of
logarithms is the product of the unmasked factors. The rest is how a running product over 1024 rows splits at multiples of 256.
-/
module

public import Idealize.ShloMosaic.PureOps.Ideal

@[expose] public section

noncomputable section

open scoped BigOperators

namespace Cert.Products

open Idealize.ShloMosaic

theorem exp_bot : Ideal.exp ⊥ = 0 := rfl
theorem exp_top : Ideal.exp ⊤ = ⊤ := rfl
theorem exp_coe (r : ℝ) : Ideal.exp (r : EReal) = (Real.exp r : EReal) := rfl
theorem log_top : Ideal.log ⊤ = ⊤ := rfl
theorem log_coe (r : ℝ) : Ideal.log (r : EReal) = if r ≤ 0 then ⊥ else (Real.log r : EReal) := rfl

/-- The exponential of zero is one. -/
theorem exp_zero : Ideal.exp 0 = 1 := by
  rw [← EReal.coe_zero, exp_coe, Real.exp_zero, EReal.coe_one]

/-- The exponential of a sum is the product of the exponentials, at the infinities too. -/
theorem exp_add (a b : EReal) : Ideal.exp (a + b) = Ideal.exp a * Ideal.exp b := by
  induction a with
  | bot => rw [EReal.bot_add, exp_bot, zero_mul]
  | top =>
    induction b with
    | bot => rw [EReal.add_bot, exp_bot, mul_zero]
    | top => rw [EReal.top_add_top, exp_top, EReal.top_mul_top]
    | coe r =>
      rw [EReal.top_add_coe, exp_top, exp_coe, EReal.top_mul_coe_of_pos (Real.exp_pos r)]
  | coe q =>
    induction b with
    | bot => rw [EReal.add_bot, exp_bot, mul_zero]
    | top => rw [EReal.coe_add_top, exp_top, exp_coe, EReal.coe_mul_top_of_pos (Real.exp_pos q)]
    | coe r => rw [← EReal.coe_add, exp_coe, exp_coe, exp_coe, Real.exp_add, EReal.coe_mul]

/-- The exponential of a finite sum is the product of the exponentials. -/
theorem exp_sum {ι : Type} (s : Finset ι) (g : ι → EReal) : Ideal.exp (∑ k ∈ s, g k) = ∏ k ∈ s, Ideal.exp (g k) := by
  classical
  induction s using Finset.induction_on with
  | empty => rw [Finset.sum_empty, Finset.prod_empty, exp_zero]
  | insert a s ha ih => rw [Finset.sum_insert ha, Finset.prod_insert ha, exp_add, ih]

/-- The exponential undoes the logarithm of a nonnegative number: of zero, whose logarithm is minus infinity, and of plus
    infinity too. -/
theorem exp_log {x : EReal} (h : 0 ≤ x) : Ideal.exp (Ideal.log x) = x := by
  induction x with
  | bot => exact absurd h (by simp)
  | top => rw [log_top, exp_top]
  | coe r =>
    have hr : 0 ≤ r := EReal.coe_nonneg.1 h
    rw [log_coe]
    split
    · next h0 => rw [exp_bot, le_antisymm h0 hr, EReal.coe_zero]
    · next h0 => rw [exp_coe, Real.exp_log (not_le.1 h0)]

/-- The exponential of a sum of masked logarithms of nonnegative numbers is the product of the numbers the mask keeps. -/
theorem exp_masked {n : ℕ} (keep : Fin n → Prop) [DecidablePred keep] (g : Fin n → EReal) (hg : ∀ k, 0 ≤ g k) :
    Ideal.exp (∑ k, (if keep k then (1 : EReal) else 0) * Ideal.log (g k)) = ∏ k, if keep k then g k else 1 := by
  rw [exp_sum]
  refine Finset.prod_congr rfl fun k _ => ?_
  split
  · rw [one_mul, exp_log (hg k)]
  · rw [zero_mul, exp_zero]

variable (f : ℕ → EReal)

/-- A product over 256 places of the factors up to place `i` is the product of the first `i + 1` of them. -/
theorem prod_upto (i : Fin 256) : (∏ k : Fin 256, if k.val ≤ i.val then f k.val else 1) = ∏ s ∈ Finset.range (i.val + 1), f s := by
  rw [Fin.prod_univ_eq_prod_range (fun k => if k ≤ i.val then f k else 1) 256, ← Finset.prod_filter]
  refine Finset.prod_congr (Finset.ext fun s => ?_) fun _ _ => rfl
  have := i.isLt
  simp only [Finset.mem_filter, Finset.mem_range]
  omega

/-- The product of the 256 factors of block `b`. -/
def total (b : ℕ) : EReal := ∏ s ∈ Finset.range 256, f (256 * b + s)

/-- The first `256 b + n` factors: the whole blocks' and then `n` more. -/
theorem prod_split (b n : ℕ) :
    ∏ s ∈ Finset.range (256 * b + n), f s = (∏ a ∈ Finset.range b, total f a) * ∏ s ∈ Finset.range n, f (256 * b + s) := by
  rw [Finset.prod_range_add]
  congr 1
  induction b with
  | zero => rfl
  | succ b ih => rw [Finset.prod_range_succ, ← ih, Nat.mul_succ, Finset.prod_range_add]; rfl

/-- Of at most four blocks, the whole blocks' products before block `c`, taken from the nearest to the farthest. -/
theorem totals_below (c : ℕ) (hc : c < 4) :
    ((1 * if 1 ≤ c then total f (c - 1) else 1) * if 2 ≤ c then total f (c - 2) else 1) * (if 3 ≤ c then total f (c - 3) else 1)
      = ∏ a ∈ Finset.range c, total f a := by
  have h : c = 0 ∨ c = 1 ∨ c = 2 ∨ c = 3 := by omega
  rcases h with rfl | rfl | rfl | rfl
  · simp
  · simp
  · simp [Finset.prod_range_succ, mul_comm]
  · simp [Finset.prod_range_succ, mul_comm, mul_left_comm, mul_assoc]

end Cert.Products

end
-- ==== Proof.KernelIdealValue.lean ====
/-
# What the kernel computes

Over the extended reals, from nonnegative inputs: the matrix product of the lower triangle with the logarithms is a masked sum
of logarithms, so its exponential is a running product of the device's own rows; row 255 of it is the product of them all.
Each device's result is its running product times the totals of the devices below it.
-/
module

public import proofs.«01_k».proof.Proof.KernelIdealLaunch
public import proofs.«01_k».proof.Proof.Products
public import Idealize.ShloMosaic.Lib.ValueIdx
public import Idealize.ShloMosaic.Lib.MatmulPlain
public import Idealize.ShloMosaic.Lib.Pipeline.Value
public import Idealize.ShloMosaic.Lib.Pipeline.ValueKit

@[expose] public section

set_option maxRecDepth 16384

noncomputable section

open scoped BigOperators

namespace Cert.KernelIdealProof

open Cert.KernelIdeal Cert.KernelIdeal.Gen
open Idealize.ShloMosaic
open Idealize.ShloMosaic.TcCoe
open Cert.Products

/-! ## The arrays -/

section
variable {F : FTy → Type} [FloatOps F]
variable (m : (ℓ : Loc nD τ sig) → Buf (Elt F) ℓ) (ρ : Dev nD → PrngReg)

/-- Device `c`'s result array ends holding what its body stored. -/
theorem finalA_out (c : Dev nD) : finalA m ρ c (1 : Fin 2) = outAt m ρ c := by
  refine (dats m ρ 0 c).arrAt_eq_of_after_last 1 t0_0 (by decide +kernel) _ fun j => ?_
  blk_simp
  rfl

/-- The block of the input a device works on is its whole argument array. -/
theorem xstg_eq (c : Dev nD) : xstg m ρ c = m ((c : Thread nD τ).loc main_arg0) := by
  have first : win0_0.index (0 : Fin 1) = ![0, 0] := by decide +kernel
  blk_ext! [xstg, s₀, first]

end

/-! ## The pieces, at an index -/

variable (x : S256x256.Idx → EReal)

/-- The 32-bit words of two small numbers compare as the numbers do. -/
theorem sle_ofNat (k i : Fin 256) : (BitVec.ofNat 32 k.val).sle (BitVec.ofNat 32 i.val) = decide (k.val ≤ i.val) := by
  have := k.isLt
  have := i.isLt
  rw [BitVec.sle_eq_decide]
  congr 1
  rw [BitVec.toInt_eq_toNat_of_lt (by simp; omega), BitVec.toInt_eq_toNat_of_lt (by simp; omega)]
  simp
  omega

/-- The word 0x3F800000 is one. -/
theorem ofBits_one : Ideal.ofBits .f32 0x3F800000#32 = 1 := by
  simp [Ideal.ofBits, Ideal.ieee, -EReal.coe_mul]
  norm_num

/-- A bit widened to a word and converted is one or zero. -/
theorem bit_value (b : Bool) : (FloatOps.sitofp (F := Ideal) .f32 ((BitVec.ofBool b).setWidth 32) : EReal) = if b then 1 else 0 := by
  cases b
  · show (((0 : ℤ) : ℝ) : EReal) = _
    simp
  · show (((1 : ℤ) : ℝ) : EReal) = _
    simp

/-- The matrix product: the logarithms of the rows up to row `i`, added. -/
theorem pay2_apply (i j : Fin 256) : (k0_pay2 (F := Ideal) x (ValueIdx.ix2 i j) : EReal)
    = ∑ k : Fin 256, (if k.val ≤ i.val then (1 : EReal) else 0) * Ideal.log (x (ValueIdx.ix2 k j)) := by
  unfold k0_pay2
  dsimp only
  rw [shapeCast_self]
  refine (Ideal.matmul_plain_apply (M := 256) (K := 256) (N := 256) none _ _ _ i j).trans ?_
  refine (congrArg₂ (· + ·) (show _ = (0 : EReal) from ?_) (Finset.sum_congr rfl fun k _ => ?_)).trans (zero_add _)
  · show Ideal.ofBits .f32 0#32 = 0
    simp [Ideal.ofBits, Ideal.ieee]
  · refine congrArg₂ (· * ·) ?_ rfl
    show (FloatOps.sitofp (F := Ideal) .f32 ((IntOp.cmpi .sle (iota .tc S256x256 32 [1] iota_S256x256_d1_w32 (ValueIdx.ix2 i k))
      (iota .tc S256x256 32 [0] iota_S256x256_d0_w32 (ValueIdx.ix2 i k))).setWidth 32) : EReal) = _
    rw [iota_single_apply, iota_single_apply]
    show (FloatOps.sitofp (F := Ideal) .f32 ((BitVec.ofBool ((BitVec.ofNat 32 k.val).sle (BitVec.ofNat 32 i.val))).setWidth 32) : EReal) = _
    rw [sle_ofNat, bit_value]
    simp

/-- Column `j` of a device's block, by row number; one past the end. -/
def colOf (j : Fin 256) (s : ℕ) : EReal := if h : s < 256 then x (ValueIdx.ix2 (⟨s, h⟩ : Fin 256) j) else 1

theorem colOf_val (j k : Fin 256) : colOf x j k.val = x (ValueIdx.ix2 k j) := by rw [colOf, dif_pos k.isLt]

variable (hx : ∀ i, 0 ≤ x i)
include hx

/-- Its exponential: the product of the rows up to row `i`. -/
theorem exp_pay2 (i j : Fin 256) : Ideal.exp (k0_pay2 (F := Ideal) x (ValueIdx.ix2 i j)) = ∏ s ∈ Finset.range (i.val + 1), colOf x j s := by
  rw [pay2_apply, exp_masked (fun k : Fin 256 => k.val ≤ i.val) (fun k => x (ValueIdx.ix2 k j)) fun k => hx _, ← prod_upto]
  exact Finset.prod_congr rfl fun k _ => by rw [colOf_val]

/-- The totals a device sends: the product of all its rows. -/
theorem pay3_apply (j : Fin 256) : (shapeCast S1x256 (k0_pay3 (F := Ideal) x) shapeCasts_S1x1x256_S1x256 (ValueIdx.ix2 (0 : Fin 1) j) : EReal)
    = ∏ s ∈ Finset.range 256, colOf x j s := by
  unfold k0_pay3
  dsimp only
  rw [shapeCast_shapeCast]
  refine (congrArg Ideal.exp (extractStridedSlice_apply _ _ _ _ (ValueIdx.ix2 (255 : Fin 256) j) fun a => ?_)).trans (exp_pay2 x hx 255 j)
  match a with
  | ⟨0, _⟩ => rfl
  | ⟨1, _⟩ => exact (Nat.zero_add _).symm

omit hx

/-- A row taken when a bit is set, ones otherwise, at column `j`. -/
theorem select_apply (b : BitVec 1) (y : S1x256.Idx → EReal) (P : Prop) [Decidable P] (hb : b = 1#1 ↔ P) (i : S1x256.Idx) :
    (Scalar.select b y (broadcast S1x256 (Ideal.ofBits .f32 0x3F800000#32)) i : EReal) = if P then y i else 1 := by
  unfold Scalar.select
  split
  · next h => rw [if_pos (hb.1 h)]
  · next h => rw [if_neg fun hp => h (hb.2 hp)]; exact ofBits_one

variable (m : (ℓ : Loc nD τ sig) → Buf (Elt Ideal) ℓ) (ρ : Dev nD → PrngReg)

/-- Device `c`'s block of the input, as extended reals. -/
def inp (c : Dev nD) : S256x256.Idx → EReal := m ((c : Thread nD τ).loc main_arg0)

/-- **The kernel's result on device `c`**, at row `i` and column `j`: the product of its own rows up to `i`, times the totals of
    the devices one, two and three below, where there are any. -/
theorem outAt_apply (hx : ∀ c i, 0 ≤ inp m c i) (c : Dev nD) (i j : Fin 256) : (outAt m ρ c (ValueIdx.ix2 i j) : EReal)
    = (∏ s ∈ Finset.range (i.val + 1), colOf (inp m c) j s)
      * (((1 * if Lo 0 c then ∏ s ∈ Finset.range 256, colOf (inp m (dn 0 c)) j s else 1)
          * if Lo 1 c then ∏ s ∈ Finset.range 256, colOf (inp m (dn 1 c)) j s else 1)
          * if Lo 2 c then ∏ s ∈ Finset.range 256, colOf (inp m (dn 2 c)) j s else 1) := by
  unfold outAt k0_pay1 k0_pay4 k0_pay5
  dsimp only
  rw [xstg_eq, xstg_eq, xstg_eq, xstg_eq]
  refine congrArg₂ (· * ·) (exp_pay2 (inp m c) (hx c) i j) ?_
  refine (broadcastTo_apply _ _ _ (ValueIdx.ix2 (0 : Fin 1) j) fun a => ?_).trans ?_
  · match a with
    | ⟨0, _⟩ => rfl
    | ⟨1, _⟩ => rfl
  · refine congrArg₂ (· * ·) (congrArg₂ (· * ·) (congrArg₂ (· * ·) ofBits_one ?_) ?_) ?_
    · exact (select_apply _ _ _ (sge_iff c 0) _).trans (congrArg (fun z : EReal => if Lo 0 c then z else 1) (pay3_apply (inp m (dn 0 c)) (hx _) j))
    · exact (select_apply _ _ _ (sge_iff c 1) _).trans (congrArg (fun z : EReal => if Lo 1 c then z else 1) (pay3_apply (inp m (dn 1 c)) (hx _) j))
    · exact (select_apply _ _ _ (sge_iff c 2) _).trans (congrArg (fun z : EReal => if Lo 2 c then z else 1) (pay3_apply (inp m (dn 2 c)) (hx _) j))

end Cert.KernelIdealProof

end
-- ==== Proof.ReferenceValue.lean ====
/-
# What the reference computes

Over the extended reals: the product carried into trip `k` is, column by column, the product of the first `k` rows, and row `r`
of the result is the product of the first `r + 1` rows.
-/
module

public import proofs.«01_k».proof.Proof.ReferenceRun
public import Idealize.ShloMosaic.Lib.ValueIdx
public import Idealize.ShloMosaic.Lib.Pointwise
public import Idealize.ShloMosaic.Lib.Pipeline.Value
public import Idealize.ShloMosaic.Lib.IdealHost
public import Idealize.ShloMosaic.Lib.WordArith.Masks

@[expose] public section

noncomputable section

open scoped BigOperators

namespace Cert.ReferenceProof

open Cert.ReferenceIdeal Cert.ReferenceIdeal.Facts₀ Cert.ReferenceIdeal.Facts
open Idealize.ShloMosaic

section
variable {F : FTy → Type} [FloatOps F]

/-- A counter below 1024, read as an integer, is itself. -/
theorem cnt_toInt (k : ℕ) (hk : k < 1024) (i : S_.Idx) : (cnt (F := F) k i : BitVec 32).toInt = k := by
  have h := WordArith.toNat_iv_zero_one k (by omega)
  show (Scf.iv 0#32 1#32 k : BitVec 32).toInt = k
  rw [BitVec.toInt_eq_toNat_of_lt (by rw [h]; omega), h]

/-- One row cut out of the array at row `k`, column 0, read at column `j`. -/
theorem slice_apply (x : S1024x256.Idx → Elt F .bf16) (st : Fin 2 → Int) (k : Fin 1024) (h0 : st 0 = k.val) (h1 : st 1 = 0) (j : Fin 256) :
    Host.dynamicSlice S1x256 x st sliceFits_S1024x256_S1x256 (ValueIdx.ix2 (0 : Fin 1) j) = x (ValueIdx.ix2 k j) := by
  have e0 := Host.clampedStart_of_le (s := S1024x256) (t := S1x256) rfl st (0 : Fin 2) k.val h0 k.isLt
  have e1 := Host.clampedStart_of_le (s := S1024x256) (t := S1x256) rfl st (1 : Fin 2) 0 h1 (le_refl 256)
  rw [Host.dynamicSlice_apply]
  refine congrArg x (funext fun a => Fin.ext ?_)
  match a with
  | ⟨0, _⟩ =>
    show Host.clampedStart S1024x256 S1x256 rfl st (0 : Fin 2) + 0 = k.val
    rw [e0, Nat.add_zero]
  | ⟨1, _⟩ =>
    show Host.clampedStart S1024x256 S1x256 rfl st (1 : Fin 2) + j.val = j.val
    rw [e1, Nat.zero_add]

/-- One row written over the array at row `k`, column 0, read at row `r` and column `j`. -/
theorem update_apply (y : S1024x256.Idx → Elt F .bf16) (q : S1x256.Idx → Elt F .bf16) (st : Fin 2 → Int) (k : Fin 1024)
    (h0 : st 0 = k.val) (h1 : st 1 = 0) (r : Fin 1024) (j : Fin 256) :
    Host.dynamicUpdateSlice y q st updateFits_S1024x256_S1x256 (ValueIdx.ix2 r j)
      = if r = k then q (ValueIdx.ix2 (0 : Fin 1) j) else y (ValueIdx.ix2 r j) := by
  have e0 := Host.clampedStart_of_le (s := S1024x256) (t := S1x256) rfl st (0 : Fin 2) k.val h0 k.isLt
  have e1 := Host.clampedStart_of_le (s := S1024x256) (t := S1x256) rfl st (1 : Fin 2) 0 h1 (le_refl 256)
  rw [Host.dynamicUpdateSlice_apply]
  by_cases hr : r = k
  · rw [if_pos hr, dif_pos ?_]
    · refine congrArg q (funext fun a => Fin.ext ?_)
      match a with
      | ⟨0, _⟩ =>
        show r.val - Host.clampedStart S1024x256 S1x256 rfl st (0 : Fin 2) = 0
        rw [e0, hr, Nat.sub_self]
      | ⟨1, _⟩ =>
        show j.val - Host.clampedStart S1024x256 S1x256 rfl st (1 : Fin 2) = j.val
        rw [e1, Nat.sub_zero]
    · intro a
      match a with
      | ⟨0, _⟩ =>
        show Host.clampedStart S1024x256 S1x256 rfl st (0 : Fin 2) ≤ r.val ∧ r.val < Host.clampedStart S1024x256 S1x256 rfl st (0 : Fin 2) + 1
        rw [e0, hr]
        exact ⟨le_refl _, Nat.lt_succ_self _⟩
      | ⟨1, _⟩ =>
        show Host.clampedStart S1024x256 S1x256 rfl st (1 : Fin 2) ≤ j.val ∧ j.val < Host.clampedStart S1024x256 S1x256 rfl st (1 : Fin 2) + 256
        rw [e1]
        exact ⟨Nat.zero_le _, by omega⟩
  · rw [if_neg hr, dif_neg ?_]
    intro h
    have h0 : Host.clampedStart S1024x256 S1x256 rfl st (0 : Fin 2) ≤ r.val ∧ r.val < Host.clampedStart S1024x256 S1x256 rfl st (0 : Fin 2) + 1 :=
      h (0 : Fin 2)
    rw [e0] at h0
    exact hr (Fin.ext (by omega))

/-- Row `k` of the array, at column `j`. -/
theorem rowAt_apply (x : (⟨S1024x256, .bf16⟩ : BufTy).Contents (Elt F)) (w : (⟨S_, .i32⟩ : BufTy).Contents (Elt F)) (k : Fin 1024)
    (hw : ∀ i, (w i : BitVec 32).toInt = k.val) (j : Fin 256) : rowAt x w (ValueIdx.ix1 j) = x (ValueIdx.ix2 k j) := by
  unfold rowAt
  refine (shapeCast_dropUnit_apply (n := 1) ![256] _ shapeCasts_S1x256_S256 (ValueIdx.ix1 j)).trans ?_
  refine (congrArg _ (funext fun a => ?_)).trans (slice_apply x _ k (hw _) rfl j)
  match a with
  | ⟨0, _⟩ => rfl
  | ⟨1, _⟩ => rfl

/-- The array with row `k` replaced by `p`, at row `r` and column `j`. -/
theorem setRow_apply (y : (⟨S1024x256, .bf16⟩ : BufTy).Contents (Elt F)) (p : (⟨S256, .bf16⟩ : BufTy).Contents (Elt F))
    (w : (⟨S_, .i32⟩ : BufTy).Contents (Elt F)) (k : Fin 1024) (hw : ∀ i, (w i : BitVec 32).toInt = k.val) (r : Fin 1024) (j : Fin 256) :
    setRow y p w (ValueIdx.ix2 r j) = if r = k then p (ValueIdx.ix1 j) else y (ValueIdx.ix2 r j) := by
  unfold setRow
  rw [update_apply y _ _ k (hw _) rfl r j]
  split
  · refine broadcastInDim_apply ![1] bcast_S256_S1x256_1 p _ (ValueIdx.ix1 j) fun a => ?_
    match a with
    | ⟨0, _⟩ => rfl
  · rfl

end

/-! ## Over the extended reals -/

/-- Column `j` of a whole array, by row number; one past the end. -/
def col (x : (⟨S1024x256, .bf16⟩ : BufTy).Contents (Elt Ideal)) (j : Fin 256) (s : ℕ) : EReal :=
  if h : s < 1024 then x (ValueIdx.ix2 (⟨s, h⟩ : Fin 1024) j) else 1

/-- The bfloat16 word 0x3F80 is one. -/
theorem ofBits_one : Ideal.ofBits .bf16 0x3F80#16 = 1 := by
  simp [Ideal.ofBits, Ideal.ieee, -EReal.coe_mul]
  norm_num

/-- The product carried into trip `k` is the product of the first `k` rows. -/
theorem prodAt_apply (x : (⟨S1024x256, .bf16⟩ : BufTy).Contents (Elt Ideal)) (j : Fin 256) (k : ℕ) (hk : k ≤ 1024) :
    (prodAt x k (ValueIdx.ix1 j) : EReal) = ∏ s ∈ Finset.range k, col x j s := by
  induction k with
  | zero => exact (ValueIdx.broadcastInDim_scalar_apply _ _ _).trans ofBits_one
  | succ k ih =>
    rw [Finset.prod_range_succ, ← ih (by omega)]
    show (prodAt x k (ValueIdx.ix1 j) : EReal) * (rowAt x (cnt k) (ValueIdx.ix1 j) : EReal) = _
    rw [rowAt_apply x (cnt k) ⟨k, by omega⟩ (cnt_toInt k (by omega)) j, col, dif_pos (by omega)]

/-- Of the result carried into trip `K`, each row `r` below `K` is the product of the first `r + 1` rows. -/
theorem scanAt_apply (x : (⟨S1024x256, .bf16⟩ : BufTy).Contents (Elt Ideal)) (r : Fin 1024) (j : Fin 256) (K : ℕ) (hK : K ≤ 1024) (hr : r.val < K) :
    (scanAt x K (ValueIdx.ix2 r j) : EReal) = ∏ s ∈ Finset.range (r.val + 1), col x j s := by
  induction K with
  | zero => omega
  | succ K ih =>
    show (setRow (scanAt x K) (prodAt x (K + 1)) (cnt K) (ValueIdx.ix2 r j) : EReal) = _
    rw [setRow_apply _ _ (cnt K) ⟨K, by omega⟩ (cnt_toInt K (by omega)) r j]
    split
    · next h => rw [prodAt_apply x j (K + 1) hK, h]
    · next h => exact ih (by omega) (by have : r.val ≠ K := fun e => h (Fin.ext e); omega)

end Cert.ReferenceProof

end
-- ==== Proof.Equation.lean ====
/-
# The equation

From a nonnegative input cut into four blocks of rows, what the kernel computes on device `c` is block `c` of what the reference
computes from the whole: the running product at row `256 c + i` is the product of the blocks before, times the product of the
first `i + 1` rows of block `c`.
-/
module

public import proofs.«01_k».proof.Defs
public import proofs.«01_k».proof.Proof.KernelIdealValue
public import proofs.«01_k».proof.Proof.ReferenceValue
public import Idealize.ShloMosaic.Lib.Layout
public import Idealize.ShloMosaic.Lib.ReduceAll
public import Idealize.ShloMosaic.Lib.WordArith

@[expose] public section

noncomputable section

open scoped BigOperators

namespace Cert.Equation

open Idealize.ShloMosaic
open Idealize.ShloMosaic.TcCoe
open Cert.KernelIdealProof (inp outAt outAt_apply colOf dn dn_val Lo)
open Cert.ReferenceProof (col scanAt scanAt_apply)
open Cert.Products

/-- What the condition on a device's block takes for granted about its shapes; -/
theorem pre_facts : Cert.Pre_nonnegative_KernelIdeal.Facts where
  bcast_S_S256x256 := by decide
  reducesTo_S256x256_S_d0_1 := by decide
  h_S_ := by decide

/-- and what the condition on the whole input does. -/
theorem pre_facts_whole : Cert.Pre_nonnegative_ReferenceIdeal.Facts where
  bcast_S_S1024x256 := by decide
  reducesTo_S1024x256_S_d0_1 := by decide
  h_S_ := by decide

/-- The condition says that every element of every device's block is nonnegative. -/
theorem nonneg (m : (ℓ : Loc Cert.KernelIdeal.nD Cert.KernelIdeal.τ Cert.KernelIdeal.sig) → Buf (Elt Ideal) ℓ)
    (h : Cert.Pre_KernelIdeal_nonnegative_KernelIdeal (hPre_nonnegative_KernelIdeal := pre_facts) m) (c : Dev Cert.KernelIdeal.nD)
    (i : Cert.KernelIdeal.S256x256.Idx) : 0 ≤ inp m c i := by
  have e := congrFun (h c) (Shape.Idx.first pre_facts.h_S_)
  have hi := Host.reduce_andi_all _ _ _ _ _ e i
  have h0 : Ideal.ofBits .bf16 0x0000#16 = 0 := by simp [Ideal.ofBits, Ideal.ieee]
  have hd : BitVec.ofBool (decide (Ideal.ofBits .bf16 0x0000#16 ≤ inp m c i)) = 1#1 := hi
  rw [h0] at hd
  by_contra hn
  rw [decide_eq_false hn] at hd
  exact absurd hd (by decide)

/-- The whole is four blocks of rows. -/
theorem tiles : Layout.Tiles ⟨2, ![256, 256]⟩ ⟨2, ![1024, 256]⟩ 0 4 := by decide

variable (X : Cert.ReferenceIdeal.S1024x256.Idx → EReal)
variable (m : (ℓ : Loc Cert.KernelIdeal.nD Cert.KernelIdeal.τ Cert.KernelIdeal.sig) → Buf (Elt Ideal) ℓ) (ρ : Dev Cert.KernelIdeal.nD → PrngReg)
variable (hX : ∀ c, inp m c = Layout.block ⟨2, ![256, 256]⟩ ⟨2, ![1024, 256]⟩ 0 4 c X tiles)
include hX

/-- Row `s` of device `c`'s block is row `256 c + s` of the whole. -/
theorem col_block (c : Fin 4) (j : Fin 256) (s : ℕ) (hs : s < 256) : col X j (256 * c.val + s) = colOf (inp m c) j s := by
  have hc := c.isLt
  rw [col, dif_pos (by omega), colOf, dif_pos hs, hX, Layout.block_apply]
  refine congrArg X (funext fun a => Fin.ext ?_)
  match a with
  | ⟨0, _⟩ => show 256 * c.val + s = c.val * 256 + s; omega
  | ⟨1, _⟩ => rfl

/-- The product of block `c`'s rows, either way. -/
theorem total_block (c : Fin 4) (j : Fin 256) : ∏ s ∈ Finset.range 256, colOf (inp m c) j s = total (col X j) c.val :=
  Finset.prod_congr rfl fun s hs => (col_block X m hX c j s (Finset.mem_range.1 hs)).symm

/-- The total of the device `e + 1` below, where there is one. -/
theorem total_below (e : Fin 3) (c : Fin 4) (j : Fin 256) : (if Lo e c then ∏ s ∈ Finset.range 256, colOf (inp m (dn e c)) j s else 1)
    = if e.val + 1 ≤ c.val then total (col X j) (c.val - (e.val + 1)) else 1 := by
  by_cases h : Lo e c
  · have h' : e.val + 1 ≤ c.val := h
    rw [if_pos h, if_pos h', ← dn_val e c h]
    exact total_block X m hX (dn e c) j
  · have h' : ¬ e.val + 1 ≤ c.val := h
    rw [if_neg h, if_neg h']

/-- **The equation**: device `c`'s result is block `c` of the reference's. -/
theorem result (hx : ∀ c i, 0 ≤ inp m c i) (c : Fin 4) :
    outAt m ρ c = Layout.block ⟨2, ![256, 256]⟩ ⟨2, ![1024, 256]⟩ 0 4 c (scanAt (F := Ideal) X 1024) tiles := by
  funext i
  obtain ⟨r, j, rfl⟩ : ∃ r j, i = ValueIdx.ix2 (n0 := 256) (n1 := 256) r j := ⟨_, _, ValueIdx.eq_ix2 i⟩
  have hc := c.isLt
  have hr := r.isLt
  have lands : (Layout.block ⟨2, ![256, 256]⟩ ⟨2, ![1024, 256]⟩ 0 4 c (scanAt (F := Ideal) X 1024) tiles) (ValueIdx.ix2 r j)
      = scanAt (F := Ideal) X 1024 (ValueIdx.ix2 (⟨256 * c.val + r.val, by omega⟩ : Fin 1024) j) := by
    rw [Layout.block_apply]
    refine congrArg (scanAt (F := Ideal) X 1024) (funext fun a => Fin.ext ?_)
    match a with
    | ⟨0, _⟩ => show c.val * 256 + r.val = 256 * c.val + r.val; omega
    | ⟨1, _⟩ => rfl
  refine (outAt_apply m ρ hx c r j).trans (Eq.trans ?_ (lands.trans (scanAt_apply X _ j 1024 (le_refl _) (by show 256 * c.val + r.val < 1024; omega))).symm)
  show _ = ∏ s ∈ Finset.range (256 * c.val + (r.val + 1)), col X j s
  rw [prod_split, mul_comm, total_below X m hX 0 c j, total_below X m hX 1 c j, total_below X m hX 2 c j]
  refine congrArg₂ (· * ·) (totals_below (col X j) c.val hc) (Finset.prod_congr rfl fun s hs => ?_)
  exact (col_block X m hX c j s (by have := Finset.mem_range.1 hs; omega)).symm

end Cert.Equation

end
-- ==== Proof.lean ====
/-
# The certificate

The kernel runs to the end on its four devices, whatever the floating-point operations are, leaving its argument alone and every
semaphore counter at zero; the reference does on its one device; and over the extended reals, from a nonnegative input, each
device's result is its block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelLaunch
public import proofs.«01_k».proof.Proof.KernelIdealLaunch
public import proofs.«01_k».proof.Proof.ReferenceRun
public import proofs.«01_k».proof.Proof.Equation
public import Idealize.ShloMosaic.Adequacy
public import Idealize.ShloMosaic.Init

@[expose] public section

noncomputable section

namespace Cert.Proof

open Idealize.ShloMosaic Idealize.SL.Sem

/-- On bit patterns the kernel runs, its argument ends unchanged and every semaphore counter ends at zero. -/
theorem kernel_frame : Cert.quiescent_Kernel (hKernel := Cert.Kernel.Gen.facts) := by
  intro m g _
  refine θ_run_mono (Cert.KernelProof.run_main m g) ?_
  rintro r ⟨h, hs⟩
  exact ⟨fun c => (h c (0 : Fin 2)).trans (Cert.KernelProof.finalA_x m g c), hs⟩

/-- Over the extended reals too, from any memory. -/
theorem ideal_frame : Cert.quiescent_KernelIdeal (hKernelIdeal := Cert.KernelIdeal.Gen.facts) := by
  intro m g _
  refine θ_run_mono (Cert.KernelIdealProof.run_main m g) ?_
  rintro r ⟨h, hs⟩
  exact ⟨fun c => (h c (0 : Fin 2)).trans (Cert.KernelIdealProof.finalA_x m g c), hs⟩

/-- The reference runs, its argument ends unchanged and every semaphore counter ends at zero, from any memory. -/
theorem reference_frame : Cert.quiescent_ReferenceIdeal (hReferenceIdeal := Cert.ReferenceIdeal.Gen.facts) := by
  intro m g _
  refine θ_run_mono (Cert.ReferenceProof.run_main m g) ?_
  rintro r ⟨h, hs⟩
  exact ⟨fun c => (h c).1, hs⟩

/-- From a nonnegative input, each device's result is its block of the reference's. -/
theorem equal : Cert.algebraic_KernelIdeal_ReferenceIdeal_pre_nonnegative_KernelIdeal (hKernelIdeal := Cert.KernelIdeal.Gen.facts)
    (hReferenceIdeal := Cert.ReferenceIdeal.Gen.facts) (hPre_nonnegative_KernelIdeal := Cert.Equation.pre_facts) := by
  intro m g m' g' hpre hagree
  refine ⟨Cert.ReferenceProof.scanAt (Cert.ReferenceProof.input m' 0) 1024, ?_, ?_⟩
  · refine θ_run_mono (Cert.KernelIdealProof.run_main m g) ?_
    rintro r ⟨h, -⟩ c
    refine ⟨?_, (h c (0 : Fin 2)).trans (Cert.KernelIdealProof.finalA_x m g c)⟩
    refine (h c (1 : Fin 2)).trans ((Cert.KernelIdealProof.finalA_out m g c).trans ?_)
    exact Cert.Equation.result _ m g hagree (Cert.Equation.nonneg m hpre) c
  · refine θ_run_mono (Cert.ReferenceProof.run_main m' g') ?_
    rintro r ⟨h, -⟩
    exact ⟨(h 0).2, (h 0).1⟩

/-- Everything the certificate claims. -/
theorem claim : Cert.Claim :=
  ⟨Cert.Kernel.Gen.facts, Cert.KernelIdeal.Gen.facts, Cert.ReferenceIdeal.Gen.facts, Cert.Equation.pre_facts, Cert.Equation.pre_facts_whole,
    kernel_frame, ideal_frame, fun m g _ => ideal_frame m g trivial, reference_frame, fun m g _ => reference_frame m g trivial,
    trivial, equal⟩

end Cert.Proof

end
